-- ==== Defs.lean ====
def Pre_Kernel [hPre_tokens : Cert.Pre_tokens.Facts] (m : (ℓ : Loc Cert.Kernel.nD Cert.Kernel.τ Cert.Kernel.sig) → Buf (Elt Bits) ℓ) : Prop :=
  ∀ c : Dev Cert.Kernel.nD,
    (Cert.Pre_tokens.fn (F := Bits) (m ((c.tc : Thread Cert.Kernel.nD Cert.Kernel.τ).loc Cert.Kernel.main_arg0))) = (fun _ => 1#1)

def Pre_KernelIdeal [hPre_tokens : Cert.Pre_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_tokens.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens [hPre_tokens : Cert.Pre_tokens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens.fn (F := Ideal) (m ((c.tc : Thread Cert.ReferenceIdeal.nD Cert.ReferenceIdeal.τ).loc Cert.ReferenceIdeal.main_arg0))) = (fun _ => 1#1)

def quiescent_Kernel [hKernel : Cert.Kernel.Facts] [hPre_tokens : Cert.Pre_tokens.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_tokens : Cert.Pre_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_tokens [hReferenceIdeal : Cert.ReferenceIdeal.Facts] [hPre_tokens : Cert.Pre_tokens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tokens : Cert.Pre_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_tokens : Cert.Pre_tokens.Facts),
    quiescent_Kernel (hKernel := hKernel) (hPre_tokens := hPre_tokens)
    ∧ quiescent_KernelIdeal (hKernelIdeal := hKernelIdeal) (hPre_tokens := hPre_tokens)
    ∧ quiescent_ReferenceIdeal (hReferenceIdeal := hReferenceIdeal)
    ∧ quiescent_ReferenceIdeal_pre_tokens (hReferenceIdeal := hReferenceIdeal) (hPre_tokens := hPre_tokens)
    ∧ preserves_Kernel_KernelIdeal
    ∧ algebraic_KernelIdeal_ReferenceIdeal (hKernelIdeal := hKernelIdeal) (hReferenceIdeal := hReferenceIdeal) (hPre_tokens := hPre_tokens)
-- ==== Pre_tokens.lean ====
abbrev S1024x50 : Shape := ⟨2, ![1024, 50]⟩
abbrev S_ : Shape := ⟨0, ![]⟩

class Facts : Prop where
  bcast_S_S1024x50 : S_.BroadcastsInDim S1024x50 (![] : Fin 0 → Fin S1024x50.rank)
  reducesTo_S1024x50_S_d0_1 : S1024x50.ReducesTo [0, 1] S_
  h_S_ : 0 < S_.numel

variable [Facts]

def fn {F : FTy → Type} [FloatOps F] (main_arg0 : IVec S1024x50 32) : IVec S_ 1 :=
  let main_c : IVec S_ 32 := constantI S_ 32 0#32
  let main_v0 : IVec S1024x50 32 := broadcastInDim S1024x50 ![] bcast_S_S1024x50 main_c
  let main_v1 : IVec S1024x50 1 := cmpi .sge main_arg0 main_v0
  let main_c_0 : IVec S_ 32 := constantI S_ 32 32#32
  let main_v2 : IVec S1024x50 32 := broadcastInDim S1024x50 ![] bcast_S_S1024x50 main_c_0
  let main_v3 : IVec S1024x50 1 := cmpi .slt main_arg0 main_v2
  let main_v4 : IVec S1024x50 1 := andi main_v1 main_v3
  let main_c_1 : IVec S_ 1 := constantI S_ 1 1#1
  let main_v5 : IVec S_ 1 := (fun x v => Host.reduce IntOp.andi x v reducesTo_S1024x50_S_d0_1 h_S_) main_v4 main_c_1
  main_v5
-- ==== Kernel.lean ====
abbrev S1024x50 : Shape := ⟨2, ![1024, 50]⟩
abbrev S51200 : Shape := ⟨1, ![51200]⟩
abbrev S1081344 : Shape := ⟨1, ![1081344]⟩
abbrev S1600 : Shape := ⟨1, ![1600]⟩
abbrev S33792 : Shape := ⟨1, ![33792]⟩
abbrev S_ : Shape := ⟨0, ![]⟩
abbrev S16 : Shape := ⟨1, ![16]⟩
abbrev S1024x1056 : Shape := ⟨2, ![1024, 1056]⟩

abbrev nBuf : Table → Nat
  | .hbm => 4
  | .local .scVector .vmem => 2
  | _ => 0

abbrev bufTy : (tb : Table) → Fin (nBuf tb) → BufTy
  | .hbm, ⟨0, _⟩ => ⟨S1024x50, .i32⟩
  | .hbm, ⟨1, _⟩ => ⟨S51200, .i32⟩
  | .hbm, ⟨2, _⟩ => ⟨S1081344, .f32⟩
  | .hbm, ⟨3, _⟩ => ⟨S1024x1056, .f32⟩
  | .local .scVector .vmem, ⟨0, _⟩ => ⟨S1600, .i32⟩
  | .local .scVector .vmem, ⟨1, _⟩ => ⟨S33792, .f32⟩
  | _, _ => ⟨S1024x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c50_i32 : BitVec 32 := 50#32
  let v3 : BitVec 32 := Scalar.muli v2 c50_i32
  ![v3.toNat]
@[reducible] def k0_t1_loop : Scf.Loop 32 :=
  let c0_i32_0 : BitVec 32 := 0#32
  let c264_i32 : BitVec 32 := 264#32
  let v5 : BitVec 32 := Scalar.addi c0_i32_0 c264_i32
  let c1_i32 : BitVec 32 := 1#32
  ⟨c0_i32_0, v5, c1_i32⟩
def k0_off2 (k0_t1 : Fin k0_t1_loop.trips) (c0_i32_117 : BitVec 32) : Fin 1 → Nat :=
  let c0_i32_0 : BitVec 32 := 0#32
  let c1_i32 : BitVec 32 := 1#32
  let arg6 : BitVec 32 := Scf.iv c0_i32_0 c1_i32 k0_t1
  let c128_i32 : BitVec 32 := 128#32
  let v629 : BitVec 32 := Scalar.muli arg6 c128_i32
  let v630 : BitVec 32 := Scalar.addi v629 c0_i32_117
  let v631 : Index := Scalar.indexCast v630
  ![v631.toNat]

def k0_chk1 (v19 : IVec S16 32) : Prop :=
  (∀ a x, ((![v19] : Fin 1 → IVec S16 32) a x).toNat < S1600.size a)
theorem k0_idx1_inb : ∀ (v19 : IVec S16 32) (k0_hw1 : k0_chk1 v19), ∀ a x, ((![v19] : Fin 1 → IVec S16 32) a x).toNat < S1600.size a := fun v19 k0_hw1 => k0_hw1

def k0_chk2 (v22 : IVec S16 32) : Prop :=
  (∀ a x, ((![v22] : Fin 1 → IVec S16 32) a x).toNat < S1600.size a)
theorem k0_idx2_inb : ∀ (v22 : IVec S16 32) (k0_hw2 : k0_chk2 v22), ∀ a x, ((![v22] : Fin 1 → IVec S16 32) a x).toNat < S1600.size a := fun v22 k0_hw2 => k0_hw2

def k0_chk3 (v24 : IVec S16 32) : Prop :=
  (∀ a x, ((![v24] : Fin 1 → IVec S16 32) a x).toNat < S33792.size a)
theorem k0_idx3_inb : ∀ (v24 : IVec S16 32) (k0_hw3 : k0_chk3 v24), ∀ a x, ((![v24] : Fin 1 → IVec S16 32) a x).toNat < S33792.size a := fun v24 k0_hw3 => k0_hw3

def k0_chk4 (v25 : IVec S16 32) : Prop :=
  (∀ a x, ((![v25] : Fin 1 → IVec S16 32) a x).toNat < S33792.size a)
theorem k0_idx4_inb : ∀ (v25 : IVec S16 32) (k0_hw4 : k0_chk4 v25), ∀ a x, ((![v25] : Fin 1 → IVec S16 32) a x).toNat < S33792.size a := fun v25 k0_hw4 => k0_hw4

def k0_chk5 (v29 : IVec S16 32) : Prop :=
  (∀ a x, ((![v29] : Fin 1 → IVec S16 32) a x).toNat < S33792.size a)
theorem k0_idx5_inb : ∀ (v29 : IVec S16 32) (k0_hw5 : k0_chk5 v29), ∀ a x, ((![v29] : Fin 1 → IVec S16 32) a x).toNat < S33792.size a := fun v29 k0_hw5 => k0_hw5

def k0_chk6 (v31 : IVec S16 32) : Prop :=
  (∀ a x, ((![v31] : Fin 1 → IVec S16 32) a x).toNat < S1600.size a)
theorem k0_idx6_inb : ∀ (v31 : IVec S16 32) (k0_hw6 : k0_chk6 v31), ∀ a x, ((![v31] : Fin 1 → IVec S16 32) a x).toNat < S1600.size a := fun v31 k0_hw6 => k0_hw6

def k0_chk7 (v34 : IVec S16 32) : Prop :=
  (∀ a x, ((![v34] : Fin 1 → IVec S16 32) a x).toNat < S1600.size a)
theorem k0_idx7_inb : ∀ (v34 : IVec S16 32) (k0_hw7 : k0_chk7 v34), ∀ a x, ((![v34] : Fin 1 → IVec S16 32) a x).toNat < S1600.size a := fun v34 k0_hw7 => k0_hw7

def k0_chk8 (v36 : IVec S16 32) : Prop :=
  (∀ a x, ((![v36] : Fin 1 → IVec S16 32) a x).toNat < S33792.size a)
theorem k0_idx8_inb : ∀ (v36 : IVec S16 32) (k0_hw8 : k0_chk8 v36), ∀ a x, ((![v36] : Fin 1 → IVec S16 32) a x).toNat < S33792.size a := fun v36 k0_hw8 => k0_hw8

def k0_chk9 (v37 : IVec S16 32) : Prop :=
  (∀ a x, ((![v37] : Fin 1 → IVec S16 32) a x).toNat < S33792.size a)
theorem k0_idx9_inb : ∀ (v37 : IVec S16 32) (k0_hw9 : k0_chk9 v37), ∀ a x, ((![v37] : Fin 1 → IVec S16 32) a x).toNat < S33792.size a := fun v37 k0_hw9 => k0_hw9

def k0_chk10 (v41 : IVec S16 32) : Prop :=
  (∀ a x, ((![v41] : Fin 1 → IVec S16 32) a x).toNat < S33792.size a)
theorem k0_idx10_inb : ∀ (v41 : IVec S16 32) (k0_hw10 : k0_chk10 v41), ∀ a x, ((![v41] : Fin 1 → IVec S16 32) a x).toNat < S33792.size a := fun v41 k0_hw10 => k0_hw10

def k0_chk11 (v43 : IVec S16 32) : Prop :=
  (∀ a x, ((![v43] : Fin 1 → IVec S16 32) a x).toNat < S1600.size a)
theorem k0_idx11_inb : ∀ (v43 : IVec S16 32) (k0_hw11 : k0_chk11 v43), ∀ a x, ((![v43] : Fin 1 → IVec S16 32) a x).toNat < S1600.size a := fun v43 k0_hw11 => k0_hw11

def k0_chk12 (v46 : IVec S16 32) : Prop :=
  (∀ a x, ((![v46] : Fin 1 → IVec S16 32) a x).toNat < S1600.size a)
theorem k0_idx12_inb : ∀ (v46 : IVec S16 32) (k0_hw12 : k0_chk12 v46), ∀ a x, ((![v46] : Fin 1 → IVec S16 32) a x).toNat < S1600.size a := fun v46 k0_hw12 => k0_hw12

def k0_chk13 (v48 : IVec S16 32) : Prop :=
  (∀ a x, ((![v48] : Fin 1 → IVec S16 32) a x).toNat < S33792.size a)
theorem k0_idx13_inb : ∀ (v48 : IVec S16 32) (k0_hw13 : k0_chk13 v48), ∀ a x, ((![v48] : Fin 1 → IVec S16 32) a x).toNat < S33792.size a := fun v48 k0_hw13 => k0_hw13

def k0_chk14 (v49 : IVec S16 32) : Prop :=
  (∀ a x, ((![v49] : Fin 1 → IVec S16 32) a x).toNat < S33792.size a)
theorem k0_idx14_inb : ∀ (v49 : IVec S16 32) (k0_hw14 : k0_chk14 v49), ∀ a x, ((![v49] : Fin 1 → IVec S16 32) a x).toNat < S33792.size a := fun v49 k0_hw14 => k0_hw14

def k0_chk15 (v53 : IVec S16 32) : Prop :=
  (∀ a x, ((![v53] : Fin 1 → IVec S16 32) a x).toNat < S33792.size a)
theorem k0_idx15_inb : ∀ (v53 : IVec S16 32) (k0_hw15 : k0_chk15 v53), ∀ a x, ((![v53] : Fin 1 → IVec S16 32) a x).toNat < S33792.size a := fun v53 k0_hw15 => k0_hw15

def k0_chk16 (v55 : IVec S16 32) : Prop :=
  (∀ a x, ((![v55] : Fin 1 → IVec S16 32) a x).toNat < S1600.size a)
theorem k0_idx16_inb : ∀ (v55 : IVec S16 32) (k0_hw16 : k0_chk16 v55), ∀ a x, ((![v55] : Fin 1 → IVec S16 32) a x).toNat < S1600.size a := fun v55 k0_hw16 => k0_hw16

def k0_chk17 (v58 : IVec S16 32) : Prop :=
  (∀ a x, ((![v58] : Fin 1 → IVec S16 32) a x).toNat < S1600.size a)
theorem k0_idx17_inb : ∀ (v58 : IVec S16 32) (k0_hw17 : k0_chk17 v58), ∀ a x, ((![v58] : Fin 1 → IVec S16 32) a x).toNat < S1600.size a := fun v58 k0_hw17 => k0_hw17

def k0_chk18 (v60 : IVec S16 32) : Prop :=
  (∀ a x, ((![v60] : Fin 1 → IVec S16 32) a x).toNat < S33792.size a)
theorem k0_idx18_inb : ∀ (v60 : IVec S16 32) (k0_hw18 : k0_chk18 v60), ∀ a x, ((![v60] : Fin 1 → IVec S16 32) a x).toNat < S33792.size a := fun v60 k0_hw18 => k0_hw18

def k0_chk19 (v61 : IVec S16 32) : Prop :=
  (∀ a x, ((![v61] : Fin 1 → IVec S16 32) a x).toNat < S33792.size a)
theorem k0_idx19_inb : ∀ (v61 : IVec S16 32) (k0_hw19 : k0_chk19 v61), ∀ a x, ((![v61] : Fin 1 → IVec S16 32) a x).toNat < S33792.size a := fun v61 k0_hw19 => k0_hw19

def k0_chk20 (v65 : IVec S16 32) : Prop :=
  (∀ a x, ((![v65] : Fin 1 → IVec S16 32) a x).toNat < S33792.size a)
theorem k0_idx20_inb : ∀ (v65 : IVec S16 32) (k0_hw20 : k0_chk20 v65), ∀ a x, ((![v65] : Fin 1 → IVec S16 32) a x).toNat < S33792.size a := fun v65 k0_hw20 => k0_hw20

def k0_chk21 (v67 : IVec S16 32) : Prop :=
  (∀ a x, ((![v67] : Fin 1 → IVec S16 32) a x).toNat < S1600.size a)
theorem k0_idx21_inb : ∀ (v67 : IVec S16 32) (k0_hw21 : k0_chk21 v67), ∀ a x, ((![v67] : Fin 1 → IVec S16 32) a x).toNat < S1600.size a := fun v67 k0_hw21 => k0_hw21

def k0_chk22 (v70 : IVec S16 32) : Prop :=
  (∀ a x, ((![v70] : Fin 1 → IVec S16 32) a x).toNat < S1600.size a)
theorem k0_idx22_inb : ∀ (v70 : IVec S16 32) (k0_hw22 : k0_chk22 v70), ∀ a x, ((![v70] : Fin 1 → IVec S16 32) a x).toNat < S1600.size a := fun v70 k0_hw22 => k0_hw22

def k0_chk23 (v72 : IVec S16 32) : Prop :=
  (∀ a x, ((![v72] : Fin 1 → IVec S16 32) a x).toNat < S33792.size a)
theorem k0_idx23_inb : ∀ (v72 : IVec S16 32) (k0_hw23 : k0_chk23 v72), ∀ a x, ((![v72] : Fin 1 → IVec S16 32) a x).toNat < S33792.size a := fun v72 k0_hw23 => k0_hw23

def k0_chk24 (v73 : IVec S16 32) : Prop :=
  (∀ a x, ((![v73] : Fin 1 → IVec S16 32) a x).toNat < S33792.size a)
theorem k0_idx24_inb : ∀ (v73 : IVec S16 32) (k0_hw24 : k0_chk24 v73), ∀ a x, ((![v73] : Fin 1 → IVec S16 32) a x).toNat < S33792.size a := fun v73 k0_hw24 => k0_hw24

def k0_chk25 (v77 : IVec S16 32) : Prop :=
  (∀ a x, ((![v77] : Fin 1 → IVec S16 32) a x).toNat < S33792.size a)
theorem k0_idx25_inb : ∀ (v77 : IVec S16 32) (k0_hw25 : k0_chk25 v77), ∀ a x, ((![v77] : Fin 1 → IVec S16 32) a x).toNat < S33792.size a := fun v77 k0_hw25 => k0_hw25

def k0_chk26 (v79 : IVec S16 32) : Prop :=
  (∀ a x, ((![v79] : Fin 1 → IVec S16 32) a x).toNat < S1600.size a)
theorem k0_idx26_inb : ∀ (v79 : IVec S16 32) (k0_hw26 : k0_chk26 v79), ∀ a x, ((![v79] : Fin 1 → IVec S16 32) a x).toNat < S1600.size a := fun v79 k0_hw26 => k0_hw26

def k0_chk27 (v82 : IVec S16 32) : Prop :=
  (∀ a x, ((![v82] : Fin 1 → IVec S16 32) a x).toNat < S1600.size a)
theorem k0_idx27_inb : ∀ (v82 : IVec S16 32) (k0_hw27 : k0_chk27 v82), ∀ a x, ((![v82] : Fin 1 → IVec S16 32) a x).toNat < S1600.size a := fun v82 k0_hw27 => k0_hw27

def k0_chk28 (v84 : IVec S16 32) : Prop :=
  (∀ a x, ((![v84] : Fin 1 → IVec S16 32) a x).toNat < S33792.size a)
theorem k0_idx28_inb : ∀ (v84 : IVec S16 32) (k0_hw28 : k0_chk28 v84), ∀ a x, ((![v84] : Fin 1 → IVec S16 32) a x).toNat < S33792.size a := fun v84 k0_hw28 => k0_hw28

def k0_chk29 (v85 : IVec S16 32) : Prop :=
  (∀ a x, ((![v85] : Fin 1 → IVec S16 32) a x).toNat < S33792.size a)
theorem k0_idx29_inb : ∀ (v85 : IVec S16 32) (k0_hw29 : k0_chk29 v85), ∀ a x, ((![v85] : Fin 1 → IVec S16 32) a x).toNat < S33792.size a := fun v85 k0_hw29 => k0_hw29

def k0_chk30 (v89 : IVec S16 32) : Prop :=
  (∀ a x, ((![v89] : Fin 1 → IVec S16 32) a x).toNat < S33792.size a)
theorem k0_idx30_inb : ∀ (v89 : IVec S16 32) (k0_hw30 : k0_chk30 v89), ∀ a x, ((![v89] : Fin 1 → IVec S16 32) a x).toNat < S33792.size a := fun v89 k0_hw30 => k0_hw30

def k0_chk31 (v91 : IVec S16 32) : Prop :=
  (∀ a x, ((![v91] : Fin 1 → IVec S16 32) a x).toNat < S1600.size a)
theorem k0_idx31_inb : ∀ (v91 : IVec S16 32) (k0_hw31 : k0_chk31 v91), ∀ a x, ((![v91] : Fin 1 → IVec S16 32) a x).toNat < S1600.size a := fun v91 k0_hw31 => k0_hw31

def k0_chk32 (v94 : IVec S16 32) : Prop :=
  (∀ a x, ((![v94] : Fin 1 → IVec S16 32) a x).toNat < S1600.size a)
theorem k0_idx32_inb : ∀ (v94 : IVec S16 32) (k0_hw32 : k0_chk32 v94), ∀ a x, ((![v94] : Fin 1 → IVec S16 32) a x).toNat < S1600.size a := fun v94 k0_hw32 => k0_hw32

def k0_chk33 (v96 : IVec S16 32) : Prop :=
  (∀ a x, ((![v96] : Fin 1 → IVec S16 32) a x).toNat < S33792.size a)
theorem k0_idx33_inb : ∀ (v96 : IVec S16 32) (k0_hw33 : k0_chk33 v96), ∀ a x, ((![v96] : Fin 1 → IVec S16 32) a x).toNat < S33792.size a := fun v96 k0_hw33 => k0_hw33

def k0_chk34 (v97 : IVec S16 32) : Prop :=
  (∀ a x, ((![v97] : Fin 1 → IVec S16 32) a x).toNat < S33792.size a)
theorem k0_idx34_inb : ∀ (v97 : IVec S16 32) (k0_hw34 : k0_chk34 v97), ∀ a x, ((![v97] : Fin 1 → IVec S16 32) a x).toNat < S33792.size a := fun v97 k0_hw34 => k0_hw34

def k0_chk35 (v101 : IVec S16 32) : Prop :=
  (∀ a x, ((![v101] : Fin 1 → IVec S16 32) a x).toNat < S33792.size a)
theorem k0_idx35_inb : ∀ (v101 : IVec S16 32) (k0_hw35 : k0_chk35 v101), ∀ a x, ((![v101] : Fin 1 → IVec S16 32) a x).toNat < S33792.size a := fun v101 k0_hw35 => k0_hw35

def k0_chk36 (v103 : IVec S16 32) : Prop :=
  (∀ a x, ((![v103] : Fin 1 → IVec S16 32) a x).toNat < S1600.size a)
theorem k0_idx36_inb : ∀ (v103 : IVec S16 32) (k0_hw36 : k0_chk36 v103), ∀ a x, ((![v103] : Fin 1 → IVec S16 32) a x).toNat < S1600.size a := fun v103 k0_hw36 => k0_hw36

def k0_chk37 (v106 : IVec S16 32) : Prop :=
  (∀ a x, ((![v106] : Fin 1 → IVec S16 32) a x).toNat < S1600.size a)
theorem k0_idx37_inb : ∀ (v106 : IVec S16 32) (k0_hw37 : k0_chk37 v106), ∀ a x, ((![v106] : Fin 1 → IVec S16 32) a x).toNat < S1600.size a := fun v106 k0_hw37 => k0_hw37

def k0_chk38 (v108 : IVec S16 32) : Prop :=
  (∀ a x, ((![v108] : Fin 1 → IVec S16 32) a x).toNat < S33792.size a)
theorem k0_idx38_inb : ∀ (v108 : IVec S16 32) (k0_hw38 : k0_chk38 v108), ∀ a x, ((![v108] : Fin 1 → IVec S16 32) a x).toNat < S33792.size a := fun v108 k0_hw38 => k0_hw38

def k0_chk39 (v109 : IVec S16 32) : Prop :=
  (∀ a x, ((![v109] : Fin 1 → IVec S16 32) a x).toNat < S33792.size a)
theorem k0_idx39_inb : ∀ (v109 : IVec S16 32) (k0_hw39 : k0_chk39 v109), ∀ a x, ((![v109] : Fin 1 → IVec S16 32) a x).toNat < S33792.size a := fun v109 k0_hw39 => k0_hw39

def k0_chk40 (v113 : IVec S16 32) : Prop :=
  (∀ a x, ((![v113] : Fin 1 → IVec S16 32) a x).toNat < S33792.size a)
theorem k0_idx40_inb : ∀ (v113 : IVec S16 32) (k0_hw40 : k0_chk40 v113), ∀ a x, ((![v113] : Fin 1 → IVec S16 32) a x).toNat < S33792.size a := fun v113 k0_hw40 => k0_hw40

def k0_chk41 (v115 : IVec S16 32) : Prop :=
  (∀ a x, ((![v115] : Fin 1 → IVec S16 32) a x).toNat < S1600.size a)
theorem k0_idx41_inb : ∀ (v115 : IVec S16 32) (k0_hw41 : k0_chk41 v115), ∀ a x, ((![v115] : Fin 1 → IVec S16 32) a x).toNat < S1600.size a := fun v115 k0_hw41 => k0_hw41

def k0_chk42 (v118 : IVec S16 32) : Prop :=
  (∀ a x, ((![v118] : Fin 1 → IVec S16 32) a x).toNat < S1600.size a)
theorem k0_idx42_inb : ∀ (v118 : IVec S16 32) (k0_hw42 : k0_chk42 v118), ∀ a x, ((![v118] : Fin 1 → IVec S16 32) a x).toNat < S1600.size a := fun v118 k0_hw42 => k0_hw42

def k0_chk43 (v120 : IVec S16 32) : Prop :=
  (∀ a x, ((![v120] : Fin 1 → IVec S16 32) a x).toNat < S33792.size a)
theorem k0_idx43_inb : ∀ (v120 : IVec S16 32) (k0_hw43 : k0_chk43 v120), ∀ a x, ((![v120] : Fin 1 → IVec S16 32) a x).toNat < S33792.size a := fun v120 k0_hw43 => k0_hw43

def k0_chk44 (v121 : IVec S16 32) : Prop :=
  (∀ a x, ((![v121] : Fin 1 → IVec S16 32) a x).toNat < S33792.size a)
theorem k0_idx44_inb : ∀ (v121 : IVec S16 32) (k0_hw44 : k0_chk44 v121), ∀ a x, ((![v121] : Fin 1 → IVec S16 32) a x).toNat < S33792.size a := fun v121 k0_hw44 => k0_hw44

def k0_chk45 (v125 : IVec S16 32) : Prop :=
  (∀ a x, ((![v125] : Fin 1 → IVec S16 32) a x).toNat < S33792.size a)
theorem k0_idx45_inb : ∀ (v125 : IVec S16 32) (k0_hw45 : k0_chk45 v125), ∀ a x, ((![v125] : Fin 1 → IVec S16 32) a x).toNat < S33792.size a := fun v125 k0_hw45 => k0_hw45

def k0_chk46 (v127 : IVec S16 32) : Prop :=
  (∀ a x, ((![v127] : Fin 1 → IVec S16 32) a x).toNat < S1600.size a)
theorem k0_idx46_inb : ∀ (v127 : IVec S16 32) (k0_hw46 : k0_chk46 v127), ∀ a x, ((![v127] : Fin 1 → IVec S16 32) a x).toNat < S1600.size a := fun v127 k0_hw46 => k0_hw46

def k0_chk47 (v130 : IVec S16 32) : Prop :=
  (∀ a x, ((![v130] : Fin 1 → IVec S16 32) a x).toNat < S1600.size a)
theorem k0_idx47_inb : ∀ (v130 : IVec S16 32) (k0_hw47 : k0_chk47 v130), ∀ a x, ((![v130] : Fin 1 → IVec S16 32) a x).toNat < S1600.size a := fun v130 k0_hw47 => k0_hw47

def k0_chk48 (v132 : IVec S16 32) : Prop :=
  (∀ a x, ((![v132] : Fin 1 → IVec S16 32) a x).toNat < S33792.size a)
theorem k0_idx48_inb : ∀ (v132 : IVec S16 32) (k0_hw48 : k0_chk48 v132), ∀ a x, ((![v132] : Fin 1 → IVec S16 32) a x).toNat < S33792.size a := fun v132 k0_hw48 => k0_hw48

def k0_chk49 (v133 : IVec S16 32) : Prop :=
  (∀ a x, ((![v133] : Fin 1 → IVec S16 32) a x).toNat < S33792.size a)
theorem k0_idx49_inb : ∀ (v133 : IVec S16 32) (k0_hw49 : k0_chk49 v133), ∀ a x, ((![v133] : Fin 1 → IVec S16 32) a x).toNat < S33792.size a := fun v133 k0_hw49 => k0_hw49

def k0_chk50 (v137 : IVec S16 32) : Prop :=
  (∀ a x, ((![v137] : Fin 1 → IVec S16 32) a x).toNat < S33792.size a)
theorem k0_idx50_inb : ∀ (v137 : IVec S16 32) (k0_hw50 : k0_chk50 v137), ∀ a x, ((![v137] : Fin 1 → IVec S16 32) a x).toNat < S33792.size a := fun v137 k0_hw50 => k0_hw50

def k0_chk51 (v139 : IVec S16 32) : Prop :=
  (∀ a x, ((![v139] : Fin 1 → IVec S16 32) a x).toNat < S1600.size a)
theorem k0_idx51_inb : ∀ (v139 : IVec S16 32) (k0_hw51 : k0_chk51 v139), ∀ a x, ((![v139] : Fin 1 → IVec S16 32) a x).toNat < S1600.size a := fun v139 k0_hw51 => k0_hw51

def k0_chk52 (v142 : IVec S16 32) : Prop :=
  (∀ a x, ((![v142] : Fin 1 → IVec S16 32) a x).toNat < S1600.size a)
theorem k0_idx52_inb : ∀ (v142 : IVec S16 32) (k0_hw52 : k0_chk52 v142), ∀ a x, ((![v142] : Fin 1 → IVec S16 32) a x).toNat < S1600.size a := fun v142 k0_hw52 => k0_hw52

def k0_chk53 (v144 : IVec S16 32) : Prop :=
  (∀ a x, ((![v144] : Fin 1 → IVec S16 32) a x).toNat < S33792.size a)
theorem k0_idx53_inb : ∀ (v144 : IVec S16 32) (k0_hw53 : k0_chk53 v144), ∀ a x, ((![v144] : Fin 1 → IVec S16 32) a x).toNat < S33792.size a := fun v144 k0_hw53 => k0_hw53

def k0_chk54 (v145 : IVec S16 32) : Prop :=
  (∀ a x, ((![v145] : Fin 1 → IVec S16 32) a x).toNat < S33792.size a)
theorem k0_idx54_inb : ∀ (v145 : IVec S16 32) (k0_hw54 : k0_chk54 v145), ∀ a x, ((![v145] : Fin 1 → IVec S16 32) a x).toNat < S33792.size a := fun v145 k0_hw54 => k0_hw54

def k0_chk55 (v149 : IVec S16 32) : Prop :=
  (∀ a x, ((![v149] : Fin 1 → IVec S16 32) a x).toNat < S33792.size a)
theorem k0_idx55_inb : ∀ (v149 : IVec S16 32) (k0_hw55 : k0_chk55 v149), ∀ a x, ((![v149] : Fin 1 → IVec S16 32) a x).toNat < S33792.size a := fun v149 k0_hw55 => k0_hw55

def k0_chk56 (v151 : IVec S16 32) : Prop :=
  (∀ a x, ((![v151] : Fin 1 → IVec S16 32) a x).toNat < S1600.size a)
theorem k0_idx56_inb : ∀ (v151 : IVec S16 32) (k0_hw56 : k0_chk56 v151), ∀ a x, ((![v151] : Fin 1 → IVec S16 32) a x).toNat < S1600.size a := fun v151 k0_hw56 => k0_hw56

def k0_chk57 (v154 : IVec S16 32) : Prop :=
  (∀ a x, ((![v154] : Fin 1 → IVec S16 32) a x).toNat < S1600.size a)
theorem k0_idx57_inb : ∀ (v154 : IVec S16 32) (k0_hw57 : k0_chk57 v154), ∀ a x, ((![v154] : Fin 1 → IVec S16 32) a x).toNat < S1600.size a := fun v154 k0_hw57 => k0_hw57

def k0_chk58 (v156 : IVec S16 32) : Prop :=
  (∀ a x, ((![v156] : Fin 1 → IVec S16 32) a x).toNat < S33792.size a)
theorem k0_idx58_inb : ∀ (v156 : IVec S16 32) (k0_hw58 : k0_chk58 v156), ∀ a x, ((![v156] : Fin 1 → IVec S16 32) a x).toNat < S33792.size a := fun v156 k0_hw58 => k0_hw58

def k0_chk59 (v157 : IVec S16 32) : Prop :=
  (∀ a x, ((![v157] : Fin 1 → IVec S16 32) a x).toNat < S33792.size a)
theorem k0_idx59_inb : ∀ (v157 : IVec S16 32) (k0_hw59 : k0_chk59 v157), ∀ a x, ((![v157] : Fin 1 → IVec S16 32) a x).toNat < S33792.size a := fun v157 k0_hw59 => k0_hw59

def k0_chk60 (v161 : IVec S16 32) : Prop :=
  (∀ a x, ((![v161] : Fin 1 → IVec S16 32) a x).toNat < S33792.size a)
theorem k0_idx60_inb : ∀ (v161 : IVec S16 32) (k0_hw60 : k0_chk60 v161), ∀ a x, ((![v161] : Fin 1 → IVec S16 32) a x).toNat < S33792.size a := fun v161 k0_hw60 => k0_hw60

def k0_chk61 (v163 : IVec S16 32) : Prop :=
  (∀ a x, ((![v163] : Fin 1 → IVec S16 32) a x).toNat < S1600.size a)
theorem k0_idx61_inb : ∀ (v163 : IVec S16 32) (k0_hw61 : k0_chk61 v163), ∀ a x, ((![v163] : Fin 1 → IVec S16 32) a x).toNat < S1600.size a := fun v163 k0_hw61 => k0_hw61

def k0_chk62 (v166 : IVec S16 32) : Prop :=
  (∀ a x, ((![v166] : Fin 1 → IVec S16 32) a x).toNat < S1600.size a)
theorem k0_idx62_inb : ∀ (v166 : IVec S16 32) (k0_hw62 : k0_chk62 v166), ∀ a x, ((![v166] : Fin 1 → IVec S16 32) a x).toNat < S1600.size a := fun v166 k0_hw62 => k0_hw62

def k0_chk63 (v168 : IVec S16 32) : Prop :=
  (∀ a x, ((![v168] : Fin 1 → IVec S16 32) a x).toNat < S33792.size a)
theorem k0_idx63_inb : ∀ (v168 : IVec S16 32) (k0_hw63 : k0_chk63 v168), ∀ a x, ((![v168] : Fin 1 → IVec S16 32) a x).toNat < S33792.size a := fun v168 k0_hw63 => k0_hw63

def k0_chk64 (v169 : IVec S16 32) : Prop :=
  (∀ a x, ((![v169] : Fin 1 → IVec S16 32) a x).toNat < S33792.size a)
theorem k0_idx64_inb : ∀ (v169 : IVec S16 32) (k0_hw64 : k0_chk64 v169), ∀ a x, ((![v169] : Fin 1 → IVec S16 32) a x).toNat < S33792.size a := fun v169 k0_hw64 => k0_hw64

def k0_chk65 (v173 : IVec S16 32) : Prop :=
  (∀ a x, ((![v173] : Fin 1 → IVec S16 32) a x).toNat < S33792.size a)
theorem k0_idx65_inb : ∀ (v173 : IVec S16 32) (k0_hw65 : k0_chk65 v173), ∀ a x, ((![v173] : Fin 1 → IVec S16 32) a x).toNat < S33792.size a := fun v173 k0_hw65 => k0_hw65

def k0_chk66 (v175 : IVec S16 32) : Prop :=
  (∀ a x, ((![v175] : Fin 1 → IVec S16 32) a x).toNat < S1600.size a)
theorem k0_idx66_inb : ∀ (v175 : IVec S16 32) (k0_hw66 : k0_chk66 v175), ∀ a x, ((![v175] : Fin 1 → IVec S16 32) a x).toNat < S1600.size a := fun v175 k0_hw66 => k0_hw66

def k0_chk67 (v178 : IVec S16 32) : Prop :=
  (∀ a x, ((![v178] : Fin 1 → IVec S16 32) a x).toNat < S1600.size a)
theorem k0_idx67_inb : ∀ (v178 : IVec S16 32) (k0_hw67 : k0_chk67 v178), ∀ a x, ((![v178] : Fin 1 → IVec S16 32) a x).toNat < S1600.size a := fun v178 k0_hw67 => k0_hw67

def k0_chk68 (v180 : IVec S16 32) : Prop :=
  (∀ a x, ((![v180] : Fin 1 → IVec S16 32) a x).toNat < S33792.size a)
theorem k0_idx68_inb : ∀ (v180 : IVec S16 32) (k0_hw68 : k0_chk68 v180), ∀ a x, ((![v180] : Fin 1 → IVec S16 32) a x).toNat < S33792.size a := fun v180 k0_hw68 => k0_hw68

def k0_chk69 (v181 : IVec S16 32) : Prop :=
  (∀ a x, ((![v181] : Fin 1 → IVec S16 32) a x).toNat < S33792.size a)
theorem k0_idx69_inb : ∀ (v181 : IVec S16 32) (k0_hw69 : k0_chk69 v181), ∀ a x, ((![v181] : Fin 1 → IVec S16 32) a x).toNat < S33792.size a := fun v181 k0_hw69 => k0_hw69

def k0_chk70 (v185 : IVec S16 32) : Prop :=
  (∀ a x, ((![v185] : Fin 1 → IVec S16 32) a x).toNat < S33792.size a)
theorem k0_idx70_inb : ∀ (v185 : IVec S16 32) (k0_hw70 : k0_chk70 v185), ∀ a x, ((![v185] : Fin 1 → IVec S16 32) a x).toNat < S33792.size a := fun v185 k0_hw70 => k0_hw70

def k0_chk71 (v187 : IVec S16 32) : Prop :=
  (∀ a x, ((![v187] : Fin 1 → IVec S16 32) a x).toNat < S1600.size a)
theorem k0_idx71_inb : ∀ (v187 : IVec S16 32) (k0_hw71 : k0_chk71 v187), ∀ a x, ((![v187] : Fin 1 → IVec S16 32) a x).toNat < S1600.size a := fun v187 k0_hw71 => k0_hw71

def k0_chk72 (v190 : IVec S16 32) : Prop :=
  (∀ a x, ((![v190] : Fin 1 → IVec S16 32) a x).toNat < S1600.size a)
theorem k0_idx72_inb : ∀ (v190 : IVec S16 32) (k0_hw72 : k0_chk72 v190), ∀ a x, ((![v190] : Fin 1 → IVec S16 32) a x).toNat < S1600.size a := fun v190 k0_hw72 => k0_hw72

def k0_chk73 (v192 : IVec S16 32) : Prop :=
  (∀ a x, ((![v192] : Fin 1 → IVec S16 32) a x).toNat < S33792.size a)
theorem k0_idx73_inb : ∀ (v192 : IVec S16 32) (k0_hw73 : k0_chk73 v192), ∀ a x, ((![v192] : Fin 1 → IVec S16 32) a x).toNat < S33792.size a := fun v192 k0_hw73 => k0_hw73

def k0_chk74 (v193 : IVec S16 32) : Prop :=
  (∀ a x, ((![v193] : Fin 1 → IVec S16 32) a x).toNat < S33792.size a)
theorem k0_idx74_inb : ∀ (v193 : IVec S16 32) (k0_hw74 : k0_chk74 v193), ∀ a x, ((![v193] : Fin 1 → IVec S16 32) a x).toNat < S33792.size a := fun v193 k0_hw74 => k0_hw74

def k0_chk75 (v197 : IVec S16 32) : Prop :=
  (∀ a x, ((![v197] : Fin 1 → IVec S16 32) a x).toNat < S33792.size a)
theorem k0_idx75_inb : ∀ (v197 : IVec S16 32) (k0_hw75 : k0_chk75 v197), ∀ a x, ((![v197] : Fin 1 → IVec S16 32) a x).toNat < S33792.size a := fun v197 k0_hw75 => k0_hw75

def k0_chk76 (v199 : IVec S16 32) : Prop :=
  (∀ a x, ((![v199] : Fin 1 → IVec S16 32) a x).toNat < S1600.size a)
theorem k0_idx76_inb : ∀ (v199 : IVec S16 32) (k0_hw76 : k0_chk76 v199), ∀ a x, ((![v199] : Fin 1 → IVec S16 32) a x).toNat < S1600.size a := fun v199 k0_hw76 => k0_hw76

def k0_chk77 (v202 : IVec S16 32) : Prop :=
  (∀ a x, ((![v202] : Fin 1 → IVec S16 32) a x).toNat < S1600.size a)
theorem k0_idx77_inb : ∀ (v202 : IVec S16 32) (k0_hw77 : k0_chk77 v202), ∀ a x, ((![v202] : Fin 1 → IVec S16 32) a x).toNat < S1600.size a := fun v202 k0_hw77 => k0_hw77

def k0_chk78 (v204 : IVec S16 32) : Prop :=
  (∀ a x, ((![v204] : Fin 1 → IVec S16 32) a x).toNat < S33792.size a)
theorem k0_idx78_inb : ∀ (v204 : IVec S16 32) (k0_hw78 : k0_chk78 v204), ∀ a x, ((![v204] : Fin 1 → IVec S16 32) a x).toNat < S33792.size a := fun v204 k0_hw78 => k0_hw78

def k0_chk79 (v205 : IVec S16 32) : Prop :=
  (∀ a x, ((![v205] : Fin 1 → IVec S16 32) a x).toNat < S33792.size a)
theorem k0_idx79_inb : ∀ (v205 : IVec S16 32) (k0_hw79 : k0_chk79 v205), ∀ a x, ((![v205] : Fin 1 → IVec S16 32) a x).toNat < S33792.size a := fun v205 k0_hw79 => k0_hw79

def k0_chk80 (v209 : IVec S16 32) : Prop :=
  (∀ a x, ((![v209] : Fin 1 → IVec S16 32) a x).toNat < S33792.size a)
theorem k0_idx80_inb : ∀ (v209 : IVec S16 32) (k0_hw80 : k0_chk80 v209), ∀ a x, ((![v209] : Fin 1 → IVec S16 32) a x).toNat < S33792.size a := fun v209 k0_hw80 => k0_hw80

def k0_chk81 (v211 : IVec S16 32) : Prop :=
  (∀ a x, ((![v211] : Fin 1 → IVec S16 32) a x).toNat < S1600.size a)
theorem k0_idx81_inb : ∀ (v211 : IVec S16 32) (k0_hw81 : k0_chk81 v211), ∀ a x, ((![v211] : Fin 1 → IVec S16 32) a x).toNat < S1600.size a := fun v211 k0_hw81 => k0_hw81

def k0_chk82 (v214 : IVec S16 32) : Prop :=
  (∀ a x, ((![v214] : Fin 1 → IVec S16 32) a x).toNat < S1600.size a)
theorem k0_idx82_inb : ∀ (v214 : IVec S16 32) (k0_hw82 : k0_chk82 v214), ∀ a x, ((![v214] : Fin 1 → IVec S16 32) a x).toNat < S1600.size a := fun v214 k0_hw82 => k0_hw82

def k0_chk83 (v216 : IVec S16 32) : Prop :=
  (∀ a x, ((![v216] : Fin 1 → IVec S16 32) a x).toNat < S33792.size a)
theorem k0_idx83_inb : ∀ (v216 : IVec S16 32) (k0_hw83 : k0_chk83 v216), ∀ a x, ((![v216] : Fin 1 → IVec S16 32) a x).toNat < S33792.size a := fun v216 k0_hw83 => k0_hw83

def k0_chk84 (v217 : IVec S16 32) : Prop :=
  (∀ a x, ((![v217] : Fin 1 → IVec S16 32) a x).toNat < S33792.size a)
theorem k0_idx84_inb : ∀ (v217 : IVec S16 32) (k0_hw84 : k0_chk84 v217), ∀ a x, ((![v217] : Fin 1 → IVec S16 32) a x).toNat < S33792.size a := fun v217 k0_hw84 => k0_hw84

def k0_chk85 (v221 : IVec S16 32) : Prop :=
  (∀ a x, ((![v221] : Fin 1 → IVec S16 32) a x).toNat < S33792.size a)
theorem k0_idx85_inb : ∀ (v221 : IVec S16 32) (k0_hw85 : k0_chk85 v221), ∀ a x, ((![v221] : Fin 1 → IVec S16 32) a x).toNat < S33792.size a := fun v221 k0_hw85 => k0_hw85

def k0_chk86 (v223 : IVec S16 32) : Prop :=
  (∀ a x, ((![v223] : Fin 1 → IVec S16 32) a x).toNat < S1600.size a)
theorem k0_idx86_inb : ∀ (v223 : IVec S16 32) (k0_hw86 : k0_chk86 v223), ∀ a x, ((![v223] : Fin 1 → IVec S16 32) a x).toNat < S1600.size a := fun v223 k0_hw86 => k0_hw86

def k0_chk87 (v226 : IVec S16 32) : Prop :=
  (∀ a x, ((![v226] : Fin 1 → IVec S16 32) a x).toNat < S1600.size a)
theorem k0_idx87_inb : ∀ (v226 : IVec S16 32) (k0_hw87 : k0_chk87 v226), ∀ a x, ((![v226] : Fin 1 → IVec S16 32) a x).toNat < S1600.size a := fun v226 k0_hw87 => k0_hw87

def k0_chk88 (v228 : IVec S16 32) : Prop :=
  (∀ a x, ((![v228] : Fin 1 → IVec S16 32) a x).toNat < S33792.size a)
theorem k0_idx88_inb : ∀ (v228 : IVec S16 32) (k0_hw88 : k0_chk88 v228), ∀ a x, ((![v228] : Fin 1 → IVec S16 32) a x).toNat < S33792.size a := fun v228 k0_hw88 => k0_hw88

def k0_chk89 (v229 : IVec S16 32) : Prop :=
  (∀ a x, ((![v229] : Fin 1 → IVec S16 32) a x).toNat < S33792.size a)
theorem k0_idx89_inb : ∀ (v229 : IVec S16 32) (k0_hw89 : k0_chk89 v229), ∀ a x, ((![v229] : Fin 1 → IVec S16 32) a x).toNat < S33792.size a := fun v229 k0_hw89 => k0_hw89

def k0_chk90 (v233 : IVec S16 32) : Prop :=
  (∀ a x, ((![v233] : Fin 1 → IVec S16 32) a x).toNat < S33792.size a)
theorem k0_idx90_inb : ∀ (v233 : IVec S16 32) (k0_hw90 : k0_chk90 v233), ∀ a x, ((![v233] : Fin 1 → IVec S16 32) a x).toNat < S33792.size a := fun v233 k0_hw90 => k0_hw90

def k0_chk91 (v235 : IVec S16 32) : Prop :=
  (∀ a x, ((![v235] : Fin 1 → IVec S16 32) a x).toNat < S1600.size a)
theorem k0_idx91_inb : ∀ (v235 : IVec S16 32) (k0_hw91 : k0_chk91 v235), ∀ a x, ((![v235] : Fin 1 → IVec S16 32) a x).toNat < S1600.size a := fun v235 k0_hw91 => k0_hw91

def k0_chk92 (v238 : IVec S16 32) : Prop :=
  (∀ a x, ((![v238] : Fin 1 → IVec S16 32) a x).toNat < S1600.size a)
theorem k0_idx92_inb : ∀ (v238 : IVec S16 32) (k0_hw92 : k0_chk92 v238), ∀ a x, ((![v238] : Fin 1 → IVec S16 32) a x).toNat < S1600.size a := fun v238 k0_hw92 => k0_hw92

def k0_chk93 (v240 : IVec S16 32) : Prop :=
  (∀ a x, ((![v240] : Fin 1 → IVec S16 32) a x).toNat < S33792.size a)
theorem k0_idx93_inb : ∀ (v240 : IVec S16 32) (k0_hw93 : k0_chk93 v240), ∀ a x, ((![v240] : Fin 1 → IVec S16 32) a x).toNat < S33792.size a := fun v240 k0_hw93 => k0_hw93

def k0_chk94 (v241 : IVec S16 32) : Prop :=
  (∀ a x, ((![v241] : Fin 1 → IVec S16 32) a x).toNat < S33792.size a)
theorem k0_idx94_inb : ∀ (v241 : IVec S16 32) (k0_hw94 : k0_chk94 v241), ∀ a x, ((![v241] : Fin 1 → IVec S16 32) a x).toNat < S33792.size a := fun v241 k0_hw94 => k0_hw94

def k0_chk95 (v245 : IVec S16 32) : Prop :=
  (∀ a x, ((![v245] : Fin 1 → IVec S16 32) a x).toNat < S33792.size a)
theorem k0_idx95_inb : ∀ (v245 : IVec S16 32) (k0_hw95 : k0_chk95 v245), ∀ a x, ((![v245] : Fin 1 → IVec S16 32) a x).toNat < S33792.size a := fun v245 k0_hw95 => k0_hw95

def k0_chk96 (v247 : IVec S16 32) : Prop :=
  (∀ a x, ((![v247] : Fin 1 → IVec S16 32) a x).toNat < S1600.size a)
theorem k0_idx96_inb : ∀ (v247 : IVec S16 32) (k0_hw96 : k0_chk96 v247), ∀ a x, ((![v247] : Fin 1 → IVec S16 32) a x).toNat < S1600.size a := fun v247 k0_hw96 => k0_hw96

def k0_chk97 (v250 : IVec S16 32) : Prop :=
  (∀ a x, ((![v250] : Fin 1 → IVec S16 32) a x).toNat < S1600.size a)
theorem k0_idx97_inb : ∀ (v250 : IVec S16 32) (k0_hw97 : k0_chk97 v250), ∀ a x, ((![v250] : Fin 1 → IVec S16 32) a x).toNat < S1600.size a := fun v250 k0_hw97 => k0_hw97

def k0_chk98 (v252 : IVec S16 32) : Prop :=
  (∀ a x, ((![v252] : Fin 1 → IVec S16 32) a x).toNat < S33792.size a)
theorem k0_idx98_inb : ∀ (v252 : IVec S16 32) (k0_hw98 : k0_chk98 v252), ∀ a x, ((![v252] : Fin 1 → IVec S16 32) a x).toNat < S33792.size a := fun v252 k0_hw98 => k0_hw98

def k0_chk99 (v253 : IVec S16 32) : Prop :=
  (∀ a x, ((![v253] : Fin 1 → IVec S16 32) a x).toNat < S33792.size a)
theorem k0_idx99_inb : ∀ (v253 : IVec S16 32) (k0_hw99 : k0_chk99 v253), ∀ a x, ((![v253] : Fin 1 → IVec S16 32) a x).toNat < S33792.size a := fun v253 k0_hw99 => k0_hw99

def k0_chk100 (v257 : IVec S16 32) : Prop :=
  (∀ a x, ((![v257] : Fin 1 → IVec S16 32) a x).toNat < S33792.size a)
theorem k0_idx100_inb : ∀ (v257 : IVec S16 32) (k0_hw100 : k0_chk100 v257), ∀ a x, ((![v257] : Fin 1 → IVec S16 32) a x).toNat < S33792.size a := fun v257 k0_hw100 => k0_hw100

def k0_chk101 (v259 : IVec S16 32) : Prop :=
  (∀ a x, ((![v259] : Fin 1 → IVec S16 32) a x).toNat < S1600.size a)
theorem k0_idx101_inb : ∀ (v259 : IVec S16 32) (k0_hw101 : k0_chk101 v259), ∀ a x, ((![v259] : Fin 1 → IVec S16 32) a x).toNat < S1600.size a := fun v259 k0_hw101 => k0_hw101

def k0_chk102 (v262 : IVec S16 32) : Prop :=
  (∀ a x, ((![v262] : Fin 1 → IVec S16 32) a x).toNat < S1600.size a)
theorem k0_idx102_inb : ∀ (v262 : IVec S16 32) (k0_hw102 : k0_chk102 v262), ∀ a x, ((![v262] : Fin 1 → IVec S16 32) a x).toNat < S1600.size a := fun v262 k0_hw102 => k0_hw102

def k0_chk103 (v264 : IVec S16 32) : Prop :=
  (∀ a x, ((![v264] : Fin 1 → IVec S16 32) a x).toNat < S33792.size a)
theorem k0_idx103_inb : ∀ (v264 : IVec S16 32) (k0_hw103 : k0_chk103 v264), ∀ a x, ((![v264] : Fin 1 → IVec S16 32) a x).toNat < S33792.size a := fun v264 k0_hw103 => k0_hw103

def k0_chk104 (v265 : IVec S16 32) : Prop :=
  (∀ a x, ((![v265] : Fin 1 → IVec S16 32) a x).toNat < S33792.size a)
theorem k0_idx104_inb : ∀ (v265 : IVec S16 32) (k0_hw104 : k0_chk104 v265), ∀ a x, ((![v265] : Fin 1 → IVec S16 32) a x).toNat < S33792.size a := fun v265 k0_hw104 => k0_hw104

def k0_chk105 (v269 : IVec S16 32) : Prop :=
  (∀ a x, ((![v269] : Fin 1 → IVec S16 32) a x).toNat < S33792.size a)
theorem k0_idx105_inb : ∀ (v269 : IVec S16 32) (k0_hw105 : k0_chk105 v269), ∀ a x, ((![v269] : Fin 1 → IVec S16 32) a x).toNat < S33792.size a := fun v269 k0_hw105 => k0_hw105

def k0_chk106 (v271 : IVec S16 32) : Prop :=
  (∀ a x, ((![v271] : Fin 1 → IVec S16 32) a x).toNat < S1600.size a)
theorem k0_idx106_inb : ∀ (v271 : IVec S16 32) (k0_hw106 : k0_chk106 v271), ∀ a x, ((![v271] : Fin 1 → IVec S16 32) a x).toNat < S1600.size a := fun v271 k0_hw106 => k0_hw106

def k0_chk107 (v274 : IVec S16 32) : Prop :=
  (∀ a x, ((![v274] : Fin 1 → IVec S16 32) a x).toNat < S1600.size a)
theorem k0_idx107_inb : ∀ (v274 : IVec S16 32) (k0_hw107 : k0_chk107 v274), ∀ a x, ((![v274] : Fin 1 → IVec S16 32) a x).toNat < S1600.size a := fun v274 k0_hw107 => k0_hw107

def k0_chk108 (v276 : IVec S16 32) : Prop :=
  (∀ a x, ((![v276] : Fin 1 → IVec S16 32) a x).toNat < S33792.size a)
theorem k0_idx108_inb : ∀ (v276 : IVec S16 32) (k0_hw108 : k0_chk108 v276), ∀ a x, ((![v276] : Fin 1 → IVec S16 32) a x).toNat < S33792.size a := fun v276 k0_hw108 => k0_hw108

def k0_chk109 (v277 : IVec S16 32) : Prop :=
  (∀ a x, ((![v277] : Fin 1 → IVec S16 32) a x).toNat < S33792.size a)
theorem k0_idx109_inb : ∀ (v277 : IVec S16 32) (k0_hw109 : k0_chk109 v277), ∀ a x, ((![v277] : Fin 1 → IVec S16 32) a x).toNat < S33792.size a := fun v277 k0_hw109 => k0_hw109

def k0_chk110 (v281 : IVec S16 32) : Prop :=
  (∀ a x, ((![v281] : Fin 1 → IVec S16 32) a x).toNat < S33792.size a)
theorem k0_idx110_inb : ∀ (v281 : IVec S16 32) (k0_hw110 : k0_chk110 v281), ∀ a x, ((![v281] : Fin 1 → IVec S16 32) a x).toNat < S33792.size a := fun v281 k0_hw110 => k0_hw110

def k0_chk111 (v283 : IVec S16 32) : Prop :=
  (∀ a x, ((![v283] : Fin 1 → IVec S16 32) a x).toNat < S1600.size a)
theorem k0_idx111_inb : ∀ (v283 : IVec S16 32) (k0_hw111 : k0_chk111 v283), ∀ a x, ((![v283] : Fin 1 → IVec S16 32) a x).toNat < S1600.size a := fun v283 k0_hw111 => k0_hw111

def k0_chk112 (v286 : IVec S16 32) : Prop :=
  (∀ a x, ((![v286] : Fin 1 → IVec S16 32) a x).toNat < S1600.size a)
theorem k0_idx112_inb : ∀ (v286 : IVec S16 32) (k0_hw112 : k0_chk112 v286), ∀ a x, ((![v286] : Fin 1 → IVec S16 32) a x).toNat < S1600.size a := fun v286 k0_hw112 => k0_hw112

def k0_chk113 (v288 : IVec S16 32) : Prop :=
  (∀ a x, ((![v288] : Fin 1 → IVec S16 32) a x).toNat < S33792.size a)
theorem k0_idx113_inb : ∀ (v288 : IVec S16 32) (k0_hw113 : k0_chk113 v288), ∀ a x, ((![v288] : Fin 1 → IVec S16 32) a x).toNat < S33792.size a := fun v288 k0_hw113 => k0_hw113

def k0_chk114 (v289 : IVec S16 32) : Prop :=
  (∀ a x, ((![v289] : Fin 1 → IVec S16 32) a x).toNat < S33792.size a)
theorem k0_idx114_inb : ∀ (v289 : IVec S16 32) (k0_hw114 : k0_chk114 v289), ∀ a x, ((![v289] : Fin 1 → IVec S16 32) a x).toNat < S33792.size a := fun v289 k0_hw114 => k0_hw114

def k0_chk115 (v293 : IVec S16 32) : Prop :=
  (∀ a x, ((![v293] : Fin 1 → IVec S16 32) a x).toNat < S33792.size a)
theorem k0_idx115_inb : ∀ (v293 : IVec S16 32) (k0_hw115 : k0_chk115 v293), ∀ a x, ((![v293] : Fin 1 → IVec S16 32) a x).toNat < S33792.size a := fun v293 k0_hw115 => k0_hw115

def k0_chk116 (v295 : IVec S16 32) : Prop :=
  (∀ a x, ((![v295] : Fin 1 → IVec S16 32) a x).toNat < S1600.size a)
theorem k0_idx116_inb : ∀ (v295 : IVec S16 32) (k0_hw116 : k0_chk116 v295), ∀ a x, ((![v295] : Fin 1 → IVec S16 32) a x).toNat < S1600.size a := fun v295 k0_hw116 => k0_hw116

def k0_chk117 (v298 : IVec S16 32) : Prop :=
  (∀ a x, ((![v298] : Fin 1 → IVec S16 32) a x).toNat < S1600.size a)
theorem k0_idx117_inb : ∀ (v298 : IVec S16 32) (k0_hw117 : k0_chk117 v298), ∀ a x, ((![v298] : Fin 1 → IVec S16 32) a x).toNat < S1600.size a := fun v298 k0_hw117 => k0_hw117

def k0_chk118 (v300 : IVec S16 32) : Prop :=
  (∀ a x, ((![v300] : Fin 1 → IVec S16 32) a x).toNat < S33792.size a)
theorem k0_idx118_inb : ∀ (v300 : IVec S16 32) (k0_hw118 : k0_chk118 v300), ∀ a x, ((![v300] : Fin 1 → IVec S16 32) a x).toNat < S33792.size a := fun v300 k0_hw118 => k0_hw118

def k0_chk119 (v301 : IVec S16 32) : Prop :=
  (∀ a x, ((![v301] : Fin 1 → IVec S16 32) a x).toNat < S33792.size a)
theorem k0_idx119_inb : ∀ (v301 : IVec S16 32) (k0_hw119 : k0_chk119 v301), ∀ a x, ((![v301] : Fin 1 → IVec S16 32) a x).toNat < S33792.size a := fun v301 k0_hw119 => k0_hw119

def k0_chk120 (v305 : IVec S16 32) : Prop :=
  (∀ a x, ((![v305] : Fin 1 → IVec S16 32) a x).toNat < S33792.size a)
theorem k0_idx120_inb : ∀ (v305 : IVec S16 32) (k0_hw120 : k0_chk120 v305), ∀ a x, ((![v305] : Fin 1 → IVec S16 32) a x).toNat < S33792.size a := fun v305 k0_hw120 => k0_hw120

def k0_chk121 (v307 : IVec S16 32) : Prop :=
  (∀ a x, ((![v307] : Fin 1 → IVec S16 32) a x).toNat < S1600.size a)
theorem k0_idx121_inb : ∀ (v307 : IVec S16 32) (k0_hw121 : k0_chk121 v307), ∀ a x, ((![v307] : Fin 1 → IVec S16 32) a x).toNat < S1600.size a := fun v307 k0_hw121 => k0_hw121

def k0_chk122 (v310 : IVec S16 32) : Prop :=
  (∀ a x, ((![v310] : Fin 1 → IVec S16 32) a x).toNat < S1600.size a)
theorem k0_idx122_inb : ∀ (v310 : IVec S16 32) (k0_hw122 : k0_chk122 v310), ∀ a x, ((![v310] : Fin 1 → IVec S16 32) a x).toNat < S1600.size a := fun v310 k0_hw122 => k0_hw122

def k0_chk123 (v312 : IVec S16 32) : Prop :=
  (∀ a x, ((![v312] : Fin 1 → IVec S16 32) a x).toNat < S33792.size a)
theorem k0_idx123_inb : ∀ (v312 : IVec S16 32) (k0_hw123 : k0_chk123 v312), ∀ a x, ((![v312] : Fin 1 → IVec S16 32) a x).toNat < S33792.size a := fun v312 k0_hw123 => k0_hw123

def k0_chk124 (v313 : IVec S16 32) : Prop :=
  (∀ a x, ((![v313] : Fin 1 → IVec S16 32) a x).toNat < S33792.size a)
theorem k0_idx124_inb : ∀ (v313 : IVec S16 32) (k0_hw124 : k0_chk124 v313), ∀ a x, ((![v313] : Fin 1 → IVec S16 32) a x).toNat < S33792.size a := fun v313 k0_hw124 => k0_hw124

def k0_chk125 (v317 : IVec S16 32) : Prop :=
  (∀ a x, ((![v317] : Fin 1 → IVec S16 32) a x).toNat < S33792.size a)
theorem k0_idx125_inb : ∀ (v317 : IVec S16 32) (k0_hw125 : k0_chk125 v317), ∀ a x, ((![v317] : Fin 1 → IVec S16 32) a x).toNat < S33792.size a := fun v317 k0_hw125 => k0_hw125

def k0_chk126 (v329 : IVec S16 32) : Prop :=
  (∀ a x, ((![v329] : Fin 1 → IVec S16 32) a x).toNat < S1600.size a)
theorem k0_idx126_inb : ∀ (v329 : IVec S16 32) (k0_hw126 : k0_chk126 v329), ∀ a x, ((![v329] : Fin 1 → IVec S16 32) a x).toNat < S1600.size a := fun v329 k0_hw126 => k0_hw126

def k0_chk127 (v332 : IVec S16 32) : Prop :=
  (∀ a x, ((![v332] : Fin 1 → IVec S16 32) a x).toNat < S1600.size a)
theorem k0_idx127_inb : ∀ (v332 : IVec S16 32) (k0_hw127 : k0_chk127 v332), ∀ a x, ((![v332] : Fin 1 → IVec S16 32) a x).toNat < S1600.size a := fun v332 k0_hw127 => k0_hw127

def k0_chk128 (v334 : IVec S16 32) : Prop :=
  (∀ a x, ((![v334] : Fin 1 → IVec S16 32) a x).toNat < S33792.size a)
theorem k0_idx128_inb : ∀ (v334 : IVec S16 32) (k0_hw128 : k0_chk128 v334), ∀ a x, ((![v334] : Fin 1 → IVec S16 32) a x).toNat < S33792.size a := fun v334 k0_hw128 => k0_hw128

def k0_chk129 (v335 : IVec S16 32) : Prop :=
  (∀ a x, ((![v335] : Fin 1 → IVec S16 32) a x).toNat < S33792.size a)
theorem k0_idx129_inb : ∀ (v335 : IVec S16 32) (k0_hw129 : k0_chk129 v335), ∀ a x, ((![v335] : Fin 1 → IVec S16 32) a x).toNat < S33792.size a := fun v335 k0_hw129 => k0_hw129

def k0_chk130 (v339 : IVec S16 32) : Prop :=
  (∀ a x, ((![v339] : Fin 1 → IVec S16 32) a x).toNat < S33792.size a)
theorem k0_idx130_inb : ∀ (v339 : IVec S16 32) (k0_hw130 : k0_chk130 v339), ∀ a x, ((![v339] : Fin 1 → IVec S16 32) a x).toNat < S33792.size a := fun v339 k0_hw130 => k0_hw130

def k0_chk131 (v341 : IVec S16 32) : Prop :=
  (∀ a x, ((![v341] : Fin 1 → IVec S16 32) a x).toNat < S1600.size a)
theorem k0_idx131_inb : ∀ (v341 : IVec S16 32) (k0_hw131 : k0_chk131 v341), ∀ a x, ((![v341] : Fin 1 → IVec S16 32) a x).toNat < S1600.size a := fun v341 k0_hw131 => k0_hw131

def k0_chk132 (v344 : IVec S16 32) : Prop :=
  (∀ a x, ((![v344] : Fin 1 → IVec S16 32) a x).toNat < S1600.size a)
theorem k0_idx132_inb : ∀ (v344 : IVec S16 32) (k0_hw132 : k0_chk132 v344), ∀ a x, ((![v344] : Fin 1 → IVec S16 32) a x).toNat < S1600.size a := fun v344 k0_hw132 => k0_hw132

def k0_chk133 (v346 : IVec S16 32) : Prop :=
  (∀ a x, ((![v346] : Fin 1 → IVec S16 32) a x).toNat < S33792.size a)
theorem k0_idx133_inb : ∀ (v346 : IVec S16 32) (k0_hw133 : k0_chk133 v346), ∀ a x, ((![v346] : Fin 1 → IVec S16 32) a x).toNat < S33792.size a := fun v346 k0_hw133 => k0_hw133

def k0_chk134 (v347 : IVec S16 32) : Prop :=
  (∀ a x, ((![v347] : Fin 1 → IVec S16 32) a x).toNat < S33792.size a)
theorem k0_idx134_inb : ∀ (v347 : IVec S16 32) (k0_hw134 : k0_chk134 v347), ∀ a x, ((![v347] : Fin 1 → IVec S16 32) a x).toNat < S33792.size a := fun v347 k0_hw134 => k0_hw134

def k0_chk135 (v351 : IVec S16 32) : Prop :=
  (∀ a x, ((![v351] : Fin 1 → IVec S16 32) a x).toNat < S33792.size a)
theorem k0_idx135_inb : ∀ (v351 : IVec S16 32) (k0_hw135 : k0_chk135 v351), ∀ a x, ((![v351] : Fin 1 → IVec S16 32) a x).toNat < S33792.size a := fun v351 k0_hw135 => k0_hw135

def k0_chk136 (v353 : IVec S16 32) : Prop :=
  (∀ a x, ((![v353] : Fin 1 → IVec S16 32) a x).toNat < S1600.size a)
theorem k0_idx136_inb : ∀ (v353 : IVec S16 32) (k0_hw136 : k0_chk136 v353), ∀ a x, ((![v353] : Fin 1 → IVec S16 32) a x).toNat < S1600.size a := fun v353 k0_hw136 => k0_hw136

def k0_chk137 (v356 : IVec S16 32) : Prop :=
  (∀ a x, ((![v356] : Fin 1 → IVec S16 32) a x).toNat < S1600.size a)
theorem k0_idx137_inb : ∀ (v356 : IVec S16 32) (k0_hw137 : k0_chk137 v356), ∀ a x, ((![v356] : Fin 1 → IVec S16 32) a x).toNat < S1600.size a := fun v356 k0_hw137 => k0_hw137

def k0_chk138 (v358 : IVec S16 32) : Prop :=
  (∀ a x, ((![v358] : Fin 1 → IVec S16 32) a x).toNat < S33792.size a)
theorem k0_idx138_inb : ∀ (v358 : IVec S16 32) (k0_hw138 : k0_chk138 v358), ∀ a x, ((![v358] : Fin 1 → IVec S16 32) a x).toNat < S33792.size a := fun v358 k0_hw138 => k0_hw138

def k0_chk139 (v359 : IVec S16 32) : Prop :=
  (∀ a x, ((![v359] : Fin 1 → IVec S16 32) a x).toNat < S33792.size a)
theorem k0_idx139_inb : ∀ (v359 : IVec S16 32) (k0_hw139 : k0_chk139 v359), ∀ a x, ((![v359] : Fin 1 → IVec S16 32) a x).toNat < S33792.size a := fun v359 k0_hw139 => k0_hw139

def k0_chk140 (v363 : IVec S16 32) : Prop :=
  (∀ a x, ((![v363] : Fin 1 → IVec S16 32) a x).toNat < S33792.size a)
theorem k0_idx140_inb : ∀ (v363 : IVec S16 32) (k0_hw140 : k0_chk140 v363), ∀ a x, ((![v363] : Fin 1 → IVec S16 32) a x).toNat < S33792.size a := fun v363 k0_hw140 => k0_hw140

def k0_chk141 (v365 : IVec S16 32) : Prop :=
  (∀ a x, ((![v365] : Fin 1 → IVec S16 32) a x).toNat < S1600.size a)
theorem k0_idx141_inb : ∀ (v365 : IVec S16 32) (k0_hw141 : k0_chk141 v365), ∀ a x, ((![v365] : Fin 1 → IVec S16 32) a x).toNat < S1600.size a := fun v365 k0_hw141 => k0_hw141

def k0_chk142 (v368 : IVec S16 32) : Prop :=
  (∀ a x, ((![v368] : Fin 1 → IVec S16 32) a x).toNat < S1600.size a)
theorem k0_idx142_inb : ∀ (v368 : IVec S16 32) (k0_hw142 : k0_chk142 v368), ∀ a x, ((![v368] : Fin 1 → IVec S16 32) a x).toNat < S1600.size a := fun v368 k0_hw142 => k0_hw142

def k0_chk143 (v370 : IVec S16 32) : Prop :=
  (∀ a x, ((![v370] : Fin 1 → IVec S16 32) a x).toNat < S33792.size a)
theorem k0_idx143_inb : ∀ (v370 : IVec S16 32) (k0_hw143 : k0_chk143 v370), ∀ a x, ((![v370] : Fin 1 → IVec S16 32) a x).toNat < S33792.size a := fun v370 k0_hw143 => k0_hw143

def k0_chk144 (v371 : IVec S16 32) : Prop :=
  (∀ a x, ((![v371] : Fin 1 → IVec S16 32) a x).toNat < S33792.size a)
theorem k0_idx144_inb : ∀ (v371 : IVec S16 32) (k0_hw144 : k0_chk144 v371), ∀ a x, ((![v371] : Fin 1 → IVec S16 32) a x).toNat < S33792.size a := fun v371 k0_hw144 => k0_hw144

def k0_chk145 (v375 : IVec S16 32) : Prop :=
  (∀ a x, ((![v375] : Fin 1 → IVec S16 32) a x).toNat < S33792.size a)
theorem k0_idx145_inb : ∀ (v375 : IVec S16 32) (k0_hw145 : k0_chk145 v375), ∀ a x, ((![v375] : Fin 1 → IVec S16 32) a x).toNat < S33792.size a := fun v375 k0_hw145 => k0_hw145

def k0_chk146 (v377 : IVec S16 32) : Prop :=
  (∀ a x, ((![v377] : Fin 1 → IVec S16 32) a x).toNat < S1600.size a)
theorem k0_idx146_inb : ∀ (v377 : IVec S16 32) (k0_hw146 : k0_chk146 v377), ∀ a x, ((![v377] : Fin 1 → IVec S16 32) a x).toNat < S1600.size a := fun v377 k0_hw146 => k0_hw146

def k0_chk147 (v380 : IVec S16 32) : Prop :=
  (∀ a x, ((![v380] : Fin 1 → IVec S16 32) a x).toNat < S1600.size a)
theorem k0_idx147_inb : ∀ (v380 : IVec S16 32) (k0_hw147 : k0_chk147 v380), ∀ a x, ((![v380] : Fin 1 → IVec S16 32) a x).toNat < S1600.size a := fun v380 k0_hw147 => k0_hw147

def k0_chk148 (v382 : IVec S16 32) : Prop :=
  (∀ a x, ((![v382] : Fin 1 → IVec S16 32) a x).toNat < S33792.size a)
theorem k0_idx148_inb : ∀ (v382 : IVec S16 32) (k0_hw148 : k0_chk148 v382), ∀ a x, ((![v382] : Fin 1 → IVec S16 32) a x).toNat < S33792.size a := fun v382 k0_hw148 => k0_hw148

def k0_chk149 (v383 : IVec S16 32) : Prop :=
  (∀ a x, ((![v383] : Fin 1 → IVec S16 32) a x).toNat < S33792.size a)
theorem k0_idx149_inb : ∀ (v383 : IVec S16 32) (k0_hw149 : k0_chk149 v383), ∀ a x, ((![v383] : Fin 1 → IVec S16 32) a x).toNat < S33792.size a := fun v383 k0_hw149 => k0_hw149

def k0_chk150 (v387 : IVec S16 32) : Prop :=
  (∀ a x, ((![v387] : Fin 1 → IVec S16 32) a x).toNat < S33792.size a)
theorem k0_idx150_inb : ∀ (v387 : IVec S16 32) (k0_hw150 : k0_chk150 v387), ∀ a x, ((![v387] : Fin 1 → IVec S16 32) a x).toNat < S33792.size a := fun v387 k0_hw150 => k0_hw150

def k0_chk151 (v389 : IVec S16 32) : Prop :=
  (∀ a x, ((![v389] : Fin 1 → IVec S16 32) a x).toNat < S1600.size a)
theorem k0_idx151_inb : ∀ (v389 : IVec S16 32) (k0_hw151 : k0_chk151 v389), ∀ a x, ((![v389] : Fin 1 → IVec S16 32) a x).toNat < S1600.size a := fun v389 k0_hw151 => k0_hw151

def k0_chk152 (v392 : IVec S16 32) : Prop :=
  (∀ a x, ((![v392] : Fin 1 → IVec S16 32) a x).toNat < S1600.size a)
theorem k0_idx152_inb : ∀ (v392 : IVec S16 32) (k0_hw152 : k0_chk152 v392), ∀ a x, ((![v392] : Fin 1 → IVec S16 32) a x).toNat < S1600.size a := fun v392 k0_hw152 => k0_hw152

def k0_chk153 (v394 : IVec S16 32) : Prop :=
  (∀ a x, ((![v394] : Fin 1 → IVec S16 32) a x).toNat < S33792.size a)
theorem k0_idx153_inb : ∀ (v394 : IVec S16 32) (k0_hw153 : k0_chk153 v394), ∀ a x, ((![v394] : Fin 1 → IVec S16 32) a x).toNat < S33792.size a := fun v394 k0_hw153 => k0_hw153

def k0_chk154 (v395 : IVec S16 32) : Prop :=
  (∀ a x, ((![v395] : Fin 1 → IVec S16 32) a x).toNat < S33792.size a)
theorem k0_idx154_inb : ∀ (v395 : IVec S16 32) (k0_hw154 : k0_chk154 v395), ∀ a x, ((![v395] : Fin 1 → IVec S16 32) a x).toNat < S33792.size a := fun v395 k0_hw154 => k0_hw154

def k0_chk155 (v399 : IVec S16 32) : Prop :=
  (∀ a x, ((![v399] : Fin 1 → IVec S16 32) a x).toNat < S33792.size a)
theorem k0_idx155_inb : ∀ (v399 : IVec S16 32) (k0_hw155 : k0_chk155 v399), ∀ a x, ((![v399] : Fin 1 → IVec S16 32) a x).toNat < S33792.size a := fun v399 k0_hw155 => k0_hw155

def k0_chk156 (v401 : IVec S16 32) : Prop :=
  (∀ a x, ((![v401] : Fin 1 → IVec S16 32) a x).toNat < S1600.size a)
theorem k0_idx156_inb : ∀ (v401 : IVec S16 32) (k0_hw156 : k0_chk156 v401), ∀ a x, ((![v401] : Fin 1 → IVec S16 32) a x).toNat < S1600.size a := fun v401 k0_hw156 => k0_hw156

def k0_chk157 (v404 : IVec S16 32) : Prop :=
  (∀ a x, ((![v404] : Fin 1 → IVec S16 32) a x).toNat < S1600.size a)
theorem k0_idx157_inb : ∀ (v404 : IVec S16 32) (k0_hw157 : k0_chk157 v404), ∀ a x, ((![v404] : Fin 1 → IVec S16 32) a x).toNat < S1600.size a := fun v404 k0_hw157 => k0_hw157

def k0_chk158 (v406 : IVec S16 32) : Prop :=
  (∀ a x, ((![v406] : Fin 1 → IVec S16 32) a x).toNat < S33792.size a)
theorem k0_idx158_inb : ∀ (v406 : IVec S16 32) (k0_hw158 : k0_chk158 v406), ∀ a x, ((![v406] : Fin 1 → IVec S16 32) a x).toNat < S33792.size a := fun v406 k0_hw158 => k0_hw158

def k0_chk159 (v407 : IVec S16 32) : Prop :=
  (∀ a x, ((![v407] : Fin 1 → IVec S16 32) a x).toNat < S33792.size a)
theorem k0_idx159_inb : ∀ (v407 : IVec S16 32) (k0_hw159 : k0_chk159 v407), ∀ a x, ((![v407] : Fin 1 → IVec S16 32) a x).toNat < S33792.size a := fun v407 k0_hw159 => k0_hw159

def k0_chk160 (v411 : IVec S16 32) : Prop :=
  (∀ a x, ((![v411] : Fin 1 → IVec S16 32) a x).toNat < S33792.size a)
theorem k0_idx160_inb : ∀ (v411 : IVec S16 32) (k0_hw160 : k0_chk160 v411), ∀ a x, ((![v411] : Fin 1 → IVec S16 32) a x).toNat < S33792.size a := fun v411 k0_hw160 => k0_hw160

def k0_chk161 (v413 : IVec S16 32) : Prop :=
  (∀ a x, ((![v413] : Fin 1 → IVec S16 32) a x).toNat < S1600.size a)
theorem k0_idx161_inb : ∀ (v413 : IVec S16 32) (k0_hw161 : k0_chk161 v413), ∀ a x, ((![v413] : Fin 1 → IVec S16 32) a x).toNat < S1600.size a := fun v413 k0_hw161 => k0_hw161

def k0_chk162 (v416 : IVec S16 32) : Prop :=
  (∀ a x, ((![v416] : Fin 1 → IVec S16 32) a x).toNat < S1600.size a)
theorem k0_idx162_inb : ∀ (v416 : IVec S16 32) (k0_hw162 : k0_chk162 v416), ∀ a x, ((![v416] : Fin 1 → IVec S16 32) a x).toNat < S1600.size a := fun v416 k0_hw162 => k0_hw162

def k0_chk163 (v418 : IVec S16 32) : Prop :=
  (∀ a x, ((![v418] : Fin 1 → IVec S16 32) a x).toNat < S33792.size a)
theorem k0_idx163_inb : ∀ (v418 : IVec S16 32) (k0_hw163 : k0_chk163 v418), ∀ a x, ((![v418] : Fin 1 → IVec S16 32) a x).toNat < S33792.size a := fun v418 k0_hw163 => k0_hw163

def k0_chk164 (v419 : IVec S16 32) : Prop :=
  (∀ a x, ((![v419] : Fin 1 → IVec S16 32) a x).toNat < S33792.size a)
theorem k0_idx164_inb : ∀ (v419 : IVec S16 32) (k0_hw164 : k0_chk164 v419), ∀ a x, ((![v419] : Fin 1 → IVec S16 32) a x).toNat < S33792.size a := fun v419 k0_hw164 => k0_hw164

def k0_chk165 (v423 : IVec S16 32) : Prop :=
  (∀ a x, ((![v423] : Fin 1 → IVec S16 32) a x).toNat < S33792.size a)
theorem k0_idx165_inb : ∀ (v423 : IVec S16 32) (k0_hw165 : k0_chk165 v423), ∀ a x, ((![v423] : Fin 1 → IVec S16 32) a x).toNat < S33792.size a := fun v423 k0_hw165 => k0_hw165

def k0_chk166 (v425 : IVec S16 32) : Prop :=
  (∀ a x, ((![v425] : Fin 1 → IVec S16 32) a x).toNat < S1600.size a)
theorem k0_idx166_inb : ∀ (v425 : IVec S16 32) (k0_hw166 : k0_chk166 v425), ∀ a x, ((![v425] : Fin 1 → IVec S16 32) a x).toNat < S1600.size a := fun v425 k0_hw166 => k0_hw166

def k0_chk167 (v428 : IVec S16 32) : Prop :=
  (∀ a x, ((![v428] : Fin 1 → IVec S16 32) a x).toNat < S1600.size a)
theorem k0_idx167_inb : ∀ (v428 : IVec S16 32) (k0_hw167 : k0_chk167 v428), ∀ a x, ((![v428] : Fin 1 → IVec S16 32) a x).toNat < S1600.size a := fun v428 k0_hw167 => k0_hw167

def k0_chk168 (v430 : IVec S16 32) : Prop :=
  (∀ a x, ((![v430] : Fin 1 → IVec S16 32) a x).toNat < S33792.size a)
theorem k0_idx168_inb : ∀ (v430 : IVec S16 32) (k0_hw168 : k0_chk168 v430), ∀ a x, ((![v430] : Fin 1 → IVec S16 32) a x).toNat < S33792.size a := fun v430 k0_hw168 => k0_hw168

def k0_chk169 (v431 : IVec S16 32) : Prop :=
  (∀ a x, ((![v431] : Fin 1 → IVec S16 32) a x).toNat < S33792.size a)
theorem k0_idx169_inb : ∀ (v431 : IVec S16 32) (k0_hw169 : k0_chk169 v431), ∀ a x, ((![v431] : Fin 1 → IVec S16 32) a x).toNat < S33792.size a := fun v431 k0_hw169 => k0_hw169

def k0_chk170 (v435 : IVec S16 32) : Prop :=
  (∀ a x, ((![v435] : Fin 1 → IVec S16 32) a x).toNat < S33792.size a)
theorem k0_idx170_inb : ∀ (v435 : IVec S16 32) (k0_hw170 : k0_chk170 v435), ∀ a x, ((![v435] : Fin 1 → IVec S16 32) a x).toNat < S33792.size a := fun v435 k0_hw170 => k0_hw170

def k0_chk171 (v437 : IVec S16 32) : Prop :=
  (∀ a x, ((![v437] : Fin 1 → IVec S16 32) a x).toNat < S1600.size a)
theorem k0_idx171_inb : ∀ (v437 : IVec S16 32) (k0_hw171 : k0_chk171 v437), ∀ a x, ((![v437] : Fin 1 → IVec S16 32) a x).toNat < S1600.size a := fun v437 k0_hw171 => k0_hw171

def k0_chk172 (v440 : IVec S16 32) : Prop :=
  (∀ a x, ((![v440] : Fin 1 → IVec S16 32) a x).toNat < S1600.size a)
theorem k0_idx172_inb : ∀ (v440 : IVec S16 32) (k0_hw172 : k0_chk172 v440), ∀ a x, ((![v440] : Fin 1 → IVec S16 32) a x).toNat < S1600.size a := fun v440 k0_hw172 => k0_hw172

def k0_chk173 (v442 : IVec S16 32) : Prop :=
  (∀ a x, ((![v442] : Fin 1 → IVec S16 32) a x).toNat < S33792.size a)
theorem k0_idx173_inb : ∀ (v442 : IVec S16 32) (k0_hw173 : k0_chk173 v442), ∀ a x, ((![v442] : Fin 1 → IVec S16 32) a x).toNat < S33792.size a := fun v442 k0_hw173 => k0_hw173

def k0_chk174 (v443 : IVec S16 32) : Prop :=
  (∀ a x, ((![v443] : Fin 1 → IVec S16 32) a x).toNat < S33792.size a)
theorem k0_idx174_inb : ∀ (v443 : IVec S16 32) (k0_hw174 : k0_chk174 v443), ∀ a x, ((![v443] : Fin 1 → IVec S16 32) a x).toNat < S33792.size a := fun v443 k0_hw174 => k0_hw174

def k0_chk175 (v447 : IVec S16 32) : Prop :=
  (∀ a x, ((![v447] : Fin 1 → IVec S16 32) a x).toNat < S33792.size a)
theorem k0_idx175_inb : ∀ (v447 : IVec S16 32) (k0_hw175 : k0_chk175 v447), ∀ a x, ((![v447] : Fin 1 → IVec S16 32) a x).toNat < S33792.size a := fun v447 k0_hw175 => k0_hw175

def k0_chk176 (v449 : IVec S16 32) : Prop :=
  (∀ a x, ((![v449] : Fin 1 → IVec S16 32) a x).toNat < S1600.size a)
theorem k0_idx176_inb : ∀ (v449 : IVec S16 32) (k0_hw176 : k0_chk176 v449), ∀ a x, ((![v449] : Fin 1 → IVec S16 32) a x).toNat < S1600.size a := fun v449 k0_hw176 => k0_hw176

def k0_chk177 (v452 : IVec S16 32) : Prop :=
  (∀ a x, ((![v452] : Fin 1 → IVec S16 32) a x).toNat < S1600.size a)
theorem k0_idx177_inb : ∀ (v452 : IVec S16 32) (k0_hw177 : k0_chk177 v452), ∀ a x, ((![v452] : Fin 1 → IVec S16 32) a x).toNat < S1600.size a := fun v452 k0_hw177 => k0_hw177

def k0_chk178 (v454 : IVec S16 32) : Prop :=
  (∀ a x, ((![v454] : Fin 1 → IVec S16 32) a x).toNat < S33792.size a)
theorem k0_idx178_inb : ∀ (v454 : IVec S16 32) (k0_hw178 : k0_chk178 v454), ∀ a x, ((![v454] : Fin 1 → IVec S16 32) a x).toNat < S33792.size a := fun v454 k0_hw178 => k0_hw178

def k0_chk179 (v455 : IVec S16 32) : Prop :=
  (∀ a x, ((![v455] : Fin 1 → IVec S16 32) a x).toNat < S33792.size a)
theorem k0_idx179_inb : ∀ (v455 : IVec S16 32) (k0_hw179 : k0_chk179 v455), ∀ a x, ((![v455] : Fin 1 → IVec S16 32) a x).toNat < S33792.size a := fun v455 k0_hw179 => k0_hw179

def k0_chk180 (v459 : IVec S16 32) : Prop :=
  (∀ a x, ((![v459] : Fin 1 → IVec S16 32) a x).toNat < S33792.size a)
theorem k0_idx180_inb : ∀ (v459 : IVec S16 32) (k0_hw180 : k0_chk180 v459), ∀ a x, ((![v459] : Fin 1 → IVec S16 32) a x).toNat < S33792.size a := fun v459 k0_hw180 => k0_hw180

def k0_chk181 (v461 : IVec S16 32) : Prop :=
  (∀ a x, ((![v461] : Fin 1 → IVec S16 32) a x).toNat < S1600.size a)
theorem k0_idx181_inb : ∀ (v461 : IVec S16 32) (k0_hw181 : k0_chk181 v461), ∀ a x, ((![v461] : Fin 1 → IVec S16 32) a x).toNat < S1600.size a := fun v461 k0_hw181 => k0_hw181

def k0_chk182 (v464 : IVec S16 32) : Prop :=
  (∀ a x, ((![v464] : Fin 1 → IVec S16 32) a x).toNat < S1600.size a)
theorem k0_idx182_inb : ∀ (v464 : IVec S16 32) (k0_hw182 : k0_chk182 v464), ∀ a x, ((![v464] : Fin 1 → IVec S16 32) a x).toNat < S1600.size a := fun v464 k0_hw182 => k0_hw182

def k0_chk183 (v466 : IVec S16 32) : Prop :=
  (∀ a x, ((![v466] : Fin 1 → IVec S16 32) a x).toNat < S33792.size a)
theorem k0_idx183_inb : ∀ (v466 : IVec S16 32) (k0_hw183 : k0_chk183 v466), ∀ a x, ((![v466] : Fin 1 → IVec S16 32) a x).toNat < S33792.size a := fun v466 k0_hw183 => k0_hw183

def k0_chk184 (v467 : IVec S16 32) : Prop :=
  (∀ a x, ((![v467] : Fin 1 → IVec S16 32) a x).toNat < S33792.size a)
theorem k0_idx184_inb : ∀ (v467 : IVec S16 32) (k0_hw184 : k0_chk184 v467), ∀ a x, ((![v467] : Fin 1 → IVec S16 32) a x).toNat < S33792.size a := fun v467 k0_hw184 => k0_hw184

def k0_chk185 (v471 : IVec S16 32) : Prop :=
  (∀ a x, ((![v471] : Fin 1 → IVec S16 32) a x).toNat < S33792.size a)
theorem k0_idx185_inb : ∀ (v471 : IVec S16 32) (k0_hw185 : k0_chk185 v471), ∀ a x, ((![v471] : Fin 1 → IVec S16 32) a x).toNat < S33792.size a := fun v471 k0_hw185 => k0_hw185

def k0_chk186 (v473 : IVec S16 32) : Prop :=
  (∀ a x, ((![v473] : Fin 1 → IVec S16 32) a x).toNat < S1600.size a)
theorem k0_idx186_inb : ∀ (v473 : IVec S16 32) (k0_hw186 : k0_chk186 v473), ∀ a x, ((![v473] : Fin 1 → IVec S16 32) a x).toNat < S1600.size a := fun v473 k0_hw186 => k0_hw186

def k0_chk187 (v476 : IVec S16 32) : Prop :=
  (∀ a x, ((![v476] : Fin 1 → IVec S16 32) a x).toNat < S1600.size a)
theorem k0_idx187_inb : ∀ (v476 : IVec S16 32) (k0_hw187 : k0_chk187 v476), ∀ a x, ((![v476] : Fin 1 → IVec S16 32) a x).toNat < S1600.size a := fun v476 k0_hw187 => k0_hw187

def k0_chk188 (v478 : IVec S16 32) : Prop :=
  (∀ a x, ((![v478] : Fin 1 → IVec S16 32) a x).toNat < S33792.size a)
theorem k0_idx188_inb : ∀ (v478 : IVec S16 32) (k0_hw188 : k0_chk188 v478), ∀ a x, ((![v478] : Fin 1 → IVec S16 32) a x).toNat < S33792.size a := fun v478 k0_hw188 => k0_hw188

def k0_chk189 (v479 : IVec S16 32) : Prop :=
  (∀ a x, ((![v479] : Fin 1 → IVec S16 32) a x).toNat < S33792.size a)
theorem k0_idx189_inb : ∀ (v479 : IVec S16 32) (k0_hw189 : k0_chk189 v479), ∀ a x, ((![v479] : Fin 1 → IVec S16 32) a x).toNat < S33792.size a := fun v479 k0_hw189 => k0_hw189

def k0_chk190 (v483 : IVec S16 32) : Prop :=
  (∀ a x, ((![v483] : Fin 1 → IVec S16 32) a x).toNat < S33792.size a)
theorem k0_idx190_inb : ∀ (v483 : IVec S16 32) (k0_hw190 : k0_chk190 v483), ∀ a x, ((![v483] : Fin 1 → IVec S16 32) a x).toNat < S33792.size a := fun v483 k0_hw190 => k0_hw190

def k0_chk191 (v485 : IVec S16 32) : Prop :=
  (∀ a x, ((![v485] : Fin 1 → IVec S16 32) a x).toNat < S1600.size a)
theorem k0_idx191_inb : ∀ (v485 : IVec S16 32) (k0_hw191 : k0_chk191 v485), ∀ a x, ((![v485] : Fin 1 → IVec S16 32) a x).toNat < S1600.size a := fun v485 k0_hw191 => k0_hw191

def k0_chk192 (v488 : IVec S16 32) : Prop :=
  (∀ a x, ((![v488] : Fin 1 → IVec S16 32) a x).toNat < S1600.size a)
theorem k0_idx192_inb : ∀ (v488 : IVec S16 32) (k0_hw192 : k0_chk192 v488), ∀ a x, ((![v488] : Fin 1 → IVec S16 32) a x).toNat < S1600.size a := fun v488 k0_hw192 => k0_hw192

def k0_chk193 (v490 : IVec S16 32) : Prop :=
  (∀ a x, ((![v490] : Fin 1 → IVec S16 32) a x).toNat < S33792.size a)
theorem k0_idx193_inb : ∀ (v490 : IVec S16 32) (k0_hw193 : k0_chk193 v490), ∀ a x, ((![v490] : Fin 1 → IVec S16 32) a x).toNat < S33792.size a := fun v490 k0_hw193 => k0_hw193

def k0_chk194 (v491 : IVec S16 32) : Prop :=
  (∀ a x, ((![v491] : Fin 1 → IVec S16 32) a x).toNat < S33792.size a)
theorem k0_idx194_inb : ∀ (v491 : IVec S16 32) (k0_hw194 : k0_chk194 v491), ∀ a x, ((![v491] : Fin 1 → IVec S16 32) a x).toNat < S33792.size a := fun v491 k0_hw194 => k0_hw194

def k0_chk195 (v495 : IVec S16 32) : Prop :=
  (∀ a x, ((![v495] : Fin 1 → IVec S16 32) a x).toNat < S33792.size a)
theorem k0_idx195_inb : ∀ (v495 : IVec S16 32) (k0_hw195 : k0_chk195 v495), ∀ a x, ((![v495] : Fin 1 → IVec S16 32) a x).toNat < S33792.size a := fun v495 k0_hw195 => k0_hw195

def k0_chk196 (v497 : IVec S16 32) : Prop :=
  (∀ a x, ((![v497] : Fin 1 → IVec S16 32) a x).toNat < S1600.size a)
theorem k0_idx196_inb : ∀ (v497 : IVec S16 32) (k0_hw196 : k0_chk196 v497), ∀ a x, ((![v497] : Fin 1 → IVec S16 32) a x).toNat < S1600.size a := fun v497 k0_hw196 => k0_hw196

def k0_chk197 (v500 : IVec S16 32) : Prop :=
  (∀ a x, ((![v500] : Fin 1 → IVec S16 32) a x).toNat < S1600.size a)
theorem k0_idx197_inb : ∀ (v500 : IVec S16 32) (k0_hw197 : k0_chk197 v500), ∀ a x, ((![v500] : Fin 1 → IVec S16 32) a x).toNat < S1600.size a := fun v500 k0_hw197 => k0_hw197

def k0_chk198 (v502 : IVec S16 32) : Prop :=
  (∀ a x, ((![v502] : Fin 1 → IVec S16 32) a x).toNat < S33792.size a)
theorem k0_idx198_inb : ∀ (v502 : IVec S16 32) (k0_hw198 : k0_chk198 v502), ∀ a x, ((![v502] : Fin 1 → IVec S16 32) a x).toNat < S33792.size a := fun v502 k0_hw198 => k0_hw198

def k0_chk199 (v503 : IVec S16 32) : Prop :=
  (∀ a x, ((![v503] : Fin 1 → IVec S16 32) a x).toNat < S33792.size a)
theorem k0_idx199_inb : ∀ (v503 : IVec S16 32) (k0_hw199 : k0_chk199 v503), ∀ a x, ((![v503] : Fin 1 → IVec S16 32) a x).toNat < S33792.size a := fun v503 k0_hw199 => k0_hw199

def k0_chk200 (v507 : IVec S16 32) : Prop :=
  (∀ a x, ((![v507] : Fin 1 → IVec S16 32) a x).toNat < S33792.size a)
theorem k0_idx200_inb : ∀ (v507 : IVec S16 32) (k0_hw200 : k0_chk200 v507), ∀ a x, ((![v507] : Fin 1 → IVec S16 32) a x).toNat < S33792.size a := fun v507 k0_hw200 => k0_hw200

def k0_chk201 (v509 : IVec S16 32) : Prop :=
  (∀ a x, ((![v509] : Fin 1 → IVec S16 32) a x).toNat < S1600.size a)
theorem k0_idx201_inb : ∀ (v509 : IVec S16 32) (k0_hw201 : k0_chk201 v509), ∀ a x, ((![v509] : Fin 1 → IVec S16 32) a x).toNat < S1600.size a := fun v509 k0_hw201 => k0_hw201

def k0_chk202 (v512 : IVec S16 32) : Prop :=
  (∀ a x, ((![v512] : Fin 1 → IVec S16 32) a x).toNat < S1600.size a)
theorem k0_idx202_inb : ∀ (v512 : IVec S16 32) (k0_hw202 : k0_chk202 v512), ∀ a x, ((![v512] : Fin 1 → IVec S16 32) a x).toNat < S1600.size a := fun v512 k0_hw202 => k0_hw202

def k0_chk203 (v514 : IVec S16 32) : Prop :=
  (∀ a x, ((![v514] : Fin 1 → IVec S16 32) a x).toNat < S33792.size a)
theorem k0_idx203_inb : ∀ (v514 : IVec S16 32) (k0_hw203 : k0_chk203 v514), ∀ a x, ((![v514] : Fin 1 → IVec S16 32) a x).toNat < S33792.size a := fun v514 k0_hw203 => k0_hw203

def k0_chk204 (v515 : IVec S16 32) : Prop :=
  (∀ a x, ((![v515] : Fin 1 → IVec S16 32) a x).toNat < S33792.size a)
theorem k0_idx204_inb : ∀ (v515 : IVec S16 32) (k0_hw204 : k0_chk204 v515), ∀ a x, ((![v515] : Fin 1 → IVec S16 32) a x).toNat < S33792.size a := fun v515 k0_hw204 => k0_hw204

def k0_chk205 (v519 : IVec S16 32) : Prop :=
  (∀ a x, ((![v519] : Fin 1 → IVec S16 32) a x).toNat < S33792.size a)
theorem k0_idx205_inb : ∀ (v519 : IVec S16 32) (k0_hw205 : k0_chk205 v519), ∀ a x, ((![v519] : Fin 1 → IVec S16 32) a x).toNat < S33792.size a := fun v519 k0_hw205 => k0_hw205

def k0_chk206 (v521 : IVec S16 32) : Prop :=
  (∀ a x, ((![v521] : Fin 1 → IVec S16 32) a x).toNat < S1600.size a)
theorem k0_idx206_inb : ∀ (v521 : IVec S16 32) (k0_hw206 : k0_chk206 v521), ∀ a x, ((![v521] : Fin 1 → IVec S16 32) a x).toNat < S1600.size a := fun v521 k0_hw206 => k0_hw206

def k0_chk207 (v524 : IVec S16 32) : Prop :=
  (∀ a x, ((![v524] : Fin 1 → IVec S16 32) a x).toNat < S1600.size a)
theorem k0_idx207_inb : ∀ (v524 : IVec S16 32) (k0_hw207 : k0_chk207 v524), ∀ a x, ((![v524] : Fin 1 → IVec S16 32) a x).toNat < S1600.size a := fun v524 k0_hw207 => k0_hw207

def k0_chk208 (v526 : IVec S16 32) : Prop :=
  (∀ a x, ((![v526] : Fin 1 → IVec S16 32) a x).toNat < S33792.size a)
theorem k0_idx208_inb : ∀ (v526 : IVec S16 32) (k0_hw208 : k0_chk208 v526), ∀ a x, ((![v526] : Fin 1 → IVec S16 32) a x).toNat < S33792.size a := fun v526 k0_hw208 => k0_hw208

def k0_chk209 (v527 : IVec S16 32) : Prop :=
  (∀ a x, ((![v527] : Fin 1 → IVec S16 32) a x).toNat < S33792.size a)
theorem k0_idx209_inb : ∀ (v527 : IVec S16 32) (k0_hw209 : k0_chk209 v527), ∀ a x, ((![v527] : Fin 1 → IVec S16 32) a x).toNat < S33792.size a := fun v527 k0_hw209 => k0_hw209

def k0_chk210 (v531 : IVec S16 32) : Prop :=
  (∀ a x, ((![v531] : Fin 1 → IVec S16 32) a x).toNat < S33792.size a)
theorem k0_idx210_inb : ∀ (v531 : IVec S16 32) (k0_hw210 : k0_chk210 v531), ∀ a x, ((![v531] : Fin 1 → IVec S16 32) a x).toNat < S33792.size a := fun v531 k0_hw210 => k0_hw210

def k0_chk211 (v533 : IVec S16 32) : Prop :=
  (∀ a x, ((![v533] : Fin 1 → IVec S16 32) a x).toNat < S1600.size a)
theorem k0_idx211_inb : ∀ (v533 : IVec S16 32) (k0_hw211 : k0_chk211 v533), ∀ a x, ((![v533] : Fin 1 → IVec S16 32) a x).toNat < S1600.size a := fun v533 k0_hw211 => k0_hw211

def k0_chk212 (v536 : IVec S16 32) : Prop :=
  (∀ a x, ((![v536] : Fin 1 → IVec S16 32) a x).toNat < S1600.size a)
theorem k0_idx212_inb : ∀ (v536 : IVec S16 32) (k0_hw212 : k0_chk212 v536), ∀ a x, ((![v536] : Fin 1 → IVec S16 32) a x).toNat < S1600.size a := fun v536 k0_hw212 => k0_hw212

def k0_chk213 (v538 : IVec S16 32) : Prop :=
  (∀ a x, ((![v538] : Fin 1 → IVec S16 32) a x).toNat < S33792.size a)
theorem k0_idx213_inb : ∀ (v538 : IVec S16 32) (k0_hw213 : k0_chk213 v538), ∀ a x, ((![v538] : Fin 1 → IVec S16 32) a x).toNat < S33792.size a := fun v538 k0_hw213 => k0_hw213

def k0_chk214 (v539 : IVec S16 32) : Prop :=
  (∀ a x, ((![v539] : Fin 1 → IVec S16 32) a x).toNat < S33792.size a)
theorem k0_idx214_inb : ∀ (v539 : IVec S16 32) (k0_hw214 : k0_chk214 v539), ∀ a x, ((![v539] : Fin 1 → IVec S16 32) a x).toNat < S33792.size a := fun v539 k0_hw214 => k0_hw214

def k0_chk215 (v543 : IVec S16 32) : Prop :=
  (∀ a x, ((![v543] : Fin 1 → IVec S16 32) a x).toNat < S33792.size a)
theorem k0_idx215_inb : ∀ (v543 : IVec S16 32) (k0_hw215 : k0_chk215 v543), ∀ a x, ((![v543] : Fin 1 → IVec S16 32) a x).toNat < S33792.size a := fun v543 k0_hw215 => k0_hw215

def k0_chk216 (v545 : IVec S16 32) : Prop :=
  (∀ a x, ((![v545] : Fin 1 → IVec S16 32) a x).toNat < S1600.size a)
theorem k0_idx216_inb : ∀ (v545 : IVec S16 32) (k0_hw216 : k0_chk216 v545), ∀ a x, ((![v545] : Fin 1 → IVec S16 32) a x).toNat < S1600.size a := fun v545 k0_hw216 => k0_hw216

def k0_chk217 (v548 : IVec S16 32) : Prop :=
  (∀ a x, ((![v548] : Fin 1 → IVec S16 32) a x).toNat < S1600.size a)
theorem k0_idx217_inb : ∀ (v548 : IVec S16 32) (k0_hw217 : k0_chk217 v548), ∀ a x, ((![v548] : Fin 1 → IVec S16 32) a x).toNat < S1600.size a := fun v548 k0_hw217 => k0_hw217

def k0_chk218 (v550 : IVec S16 32) : Prop :=
  (∀ a x, ((![v550] : Fin 1 → IVec S16 32) a x).toNat < S33792.size a)
theorem k0_idx218_inb : ∀ (v550 : IVec S16 32) (k0_hw218 : k0_chk218 v550), ∀ a x, ((![v550] : Fin 1 → IVec S16 32) a x).toNat < S33792.size a := fun v550 k0_hw218 => k0_hw218

def k0_chk219 (v551 : IVec S16 32) : Prop :=
  (∀ a x, ((![v551] : Fin 1 → IVec S16 32) a x).toNat < S33792.size a)
theorem k0_idx219_inb : ∀ (v551 : IVec S16 32) (k0_hw219 : k0_chk219 v551), ∀ a x, ((![v551] : Fin 1 → IVec S16 32) a x).toNat < S33792.size a := fun v551 k0_hw219 => k0_hw219

def k0_chk220 (v555 : IVec S16 32) : Prop :=
  (∀ a x, ((![v555] : Fin 1 → IVec S16 32) a x).toNat < S33792.size a)
theorem k0_idx220_inb : ∀ (v555 : IVec S16 32) (k0_hw220 : k0_chk220 v555), ∀ a x, ((![v555] : Fin 1 → IVec S16 32) a x).toNat < S33792.size a := fun v555 k0_hw220 => k0_hw220

def k0_chk221 (v557 : IVec S16 32) : Prop :=
  (∀ a x, ((![v557] : Fin 1 → IVec S16 32) a x).toNat < S1600.size a)
theorem k0_idx221_inb : ∀ (v557 : IVec S16 32) (k0_hw221 : k0_chk221 v557), ∀ a x, ((![v557] : Fin 1 → IVec S16 32) a x).toNat < S1600.size a := fun v557 k0_hw221 => k0_hw221

def k0_chk222 (v560 : IVec S16 32) : Prop :=
  (∀ a x, ((![v560] : Fin 1 → IVec S16 32) a x).toNat < S1600.size a)
theorem k0_idx222_inb : ∀ (v560 : IVec S16 32) (k0_hw222 : k0_chk222 v560), ∀ a x, ((![v560] : Fin 1 → IVec S16 32) a x).toNat < S1600.size a := fun v560 k0_hw222 => k0_hw222

def k0_chk223 (v562 : IVec S16 32) : Prop :=
  (∀ a x, ((![v562] : Fin 1 → IVec S16 32) a x).toNat < S33792.size a)
theorem k0_idx223_inb : ∀ (v562 : IVec S16 32) (k0_hw223 : k0_chk223 v562), ∀ a x, ((![v562] : Fin 1 → IVec S16 32) a x).toNat < S33792.size a := fun v562 k0_hw223 => k0_hw223

def k0_chk224 (v563 : IVec S16 32) : Prop :=
  (∀ a x, ((![v563] : Fin 1 → IVec S16 32) a x).toNat < S33792.size a)
theorem k0_idx224_inb : ∀ (v563 : IVec S16 32) (k0_hw224 : k0_chk224 v563), ∀ a x, ((![v563] : Fin 1 → IVec S16 32) a x).toNat < S33792.size a := fun v563 k0_hw224 => k0_hw224

def k0_chk225 (v567 : IVec S16 32) : Prop :=
  (∀ a x, ((![v567] : Fin 1 → IVec S16 32) a x).toNat < S33792.size a)
theorem k0_idx225_inb : ∀ (v567 : IVec S16 32) (k0_hw225 : k0_chk225 v567), ∀ a x, ((![v567] : Fin 1 → IVec S16 32) a x).toNat < S33792.size a := fun v567 k0_hw225 => k0_hw225

def k0_chk226 (v569 : IVec S16 32) : Prop :=
  (∀ a x, ((![v569] : Fin 1 → IVec S16 32) a x).toNat < S1600.size a)
theorem k0_idx226_inb : ∀ (v569 : IVec S16 32) (k0_hw226 : k0_chk226 v569), ∀ a x, ((![v569] : Fin 1 → IVec S16 32) a x).toNat < S1600.size a := fun v569 k0_hw226 => k0_hw226

def k0_chk227 (v572 : IVec S16 32) : Prop :=
  (∀ a x, ((![v572] : Fin 1 → IVec S16 32) a x).toNat < S1600.size a)
theorem k0_idx227_inb : ∀ (v572 : IVec S16 32) (k0_hw227 : k0_chk227 v572), ∀ a x, ((![v572] : Fin 1 → IVec S16 32) a x).toNat < S1600.size a := fun v572 k0_hw227 => k0_hw227

def k0_chk228 (v574 : IVec S16 32) : Prop :=
  (∀ a x, ((![v574] : Fin 1 → IVec S16 32) a x).toNat < S33792.size a)
theorem k0_idx228_inb : ∀ (v574 : IVec S16 32) (k0_hw228 : k0_chk228 v574), ∀ a x, ((![v574] : Fin 1 → IVec S16 32) a x).toNat < S33792.size a := fun v574 k0_hw228 => k0_hw228

def k0_chk229 (v575 : IVec S16 32) : Prop :=
  (∀ a x, ((![v575] : Fin 1 → IVec S16 32) a x).toNat < S33792.size a)
theorem k0_idx229_inb : ∀ (v575 : IVec S16 32) (k0_hw229 : k0_chk229 v575), ∀ a x, ((![v575] : Fin 1 → IVec S16 32) a x).toNat < S33792.size a := fun v575 k0_hw229 => k0_hw229

def k0_chk230 (v579 : IVec S16 32) : Prop :=
  (∀ a x, ((![v579] : Fin 1 → IVec S16 32) a x).toNat < S33792.size a)
theorem k0_idx230_inb : ∀ (v579 : IVec S16 32) (k0_hw230 : k0_chk230 v579), ∀ a x, ((![v579] : Fin 1 → IVec S16 32) a x).toNat < S33792.size a := fun v579 k0_hw230 => k0_hw230

def k0_chk231 (v581 : IVec S16 32) : Prop :=
  (∀ a x, ((![v581] : Fin 1 → IVec S16 32) a x).toNat < S1600.size a)
theorem k0_idx231_inb : ∀ (v581 : IVec S16 32) (k0_hw231 : k0_chk231 v581), ∀ a x, ((![v581] : Fin 1 → IVec S16 32) a x).toNat < S1600.size a := fun v581 k0_hw231 => k0_hw231

def k0_chk232 (v584 : IVec S16 32) : Prop :=
  (∀ a x, ((![v584] : Fin 1 → IVec S16 32) a x).toNat < S1600.size a)
theorem k0_idx232_inb : ∀ (v584 : IVec S16 32) (k0_hw232 : k0_chk232 v584), ∀ a x, ((![v584] : Fin 1 → IVec S16 32) a x).toNat < S1600.size a := fun v584 k0_hw232 => k0_hw232

def k0_chk233 (v586 : IVec S16 32) : Prop :=
  (∀ a x, ((![v586] : Fin 1 → IVec S16 32) a x).toNat < S33792.size a)
theorem k0_idx233_inb : ∀ (v586 : IVec S16 32) (k0_hw233 : k0_chk233 v586), ∀ a x, ((![v586] : Fin 1 → IVec S16 32) a x).toNat < S33792.size a := fun v586 k0_hw233 => k0_hw233

def k0_chk234 (v587 : IVec S16 32) : Prop :=
  (∀ a x, ((![v587] : Fin 1 → IVec S16 32) a x).toNat < S33792.size a)
theorem k0_idx234_inb : ∀ (v587 : IVec S16 32) (k0_hw234 : k0_chk234 v587), ∀ a x, ((![v587] : Fin 1 → IVec S16 32) a x).toNat < S33792.size a := fun v587 k0_hw234 => k0_hw234

def k0_chk235 (v591 : IVec S16 32) : Prop :=
  (∀ a x, ((![v591] : Fin 1 → IVec S16 32) a x).toNat < S33792.size a)
theorem k0_idx235_inb : ∀ (v591 : IVec S16 32) (k0_hw235 : k0_chk235 v591), ∀ a x, ((![v591] : Fin 1 → IVec S16 32) a x).toNat < S33792.size a := fun v591 k0_hw235 => k0_hw235

def k0_chk236 (v593 : IVec S16 32) : Prop :=
  (∀ a x, ((![v593] : Fin 1 → IVec S16 32) a x).toNat < S1600.size a)
theorem k0_idx236_inb : ∀ (v593 : IVec S16 32) (k0_hw236 : k0_chk236 v593), ∀ a x, ((![v593] : Fin 1 → IVec S16 32) a x).toNat < S1600.size a := fun v593 k0_hw236 => k0_hw236

def k0_chk237 (v596 : IVec S16 32) : Prop :=
  (∀ a x, ((![v596] : Fin 1 → IVec S16 32) a x).toNat < S1600.size a)
theorem k0_idx237_inb : ∀ (v596 : IVec S16 32) (k0_hw237 : k0_chk237 v596), ∀ a x, ((![v596] : Fin 1 → IVec S16 32) a x).toNat < S1600.size a := fun v596 k0_hw237 => k0_hw237

def k0_chk238 (v598 : IVec S16 32) : Prop :=
  (∀ a x, ((![v598] : Fin 1 → IVec S16 32) a x).toNat < S33792.size a)
theorem k0_idx238_inb : ∀ (v598 : IVec S16 32) (k0_hw238 : k0_chk238 v598), ∀ a x, ((![v598] : Fin 1 → IVec S16 32) a x).toNat < S33792.size a := fun v598 k0_hw238 => k0_hw238

def k0_chk239 (v599 : IVec S16 32) : Prop :=
  (∀ a x, ((![v599] : Fin 1 → IVec S16 32) a x).toNat < S33792.size a)
theorem k0_idx239_inb : ∀ (v599 : IVec S16 32) (k0_hw239 : k0_chk239 v599), ∀ a x, ((![v599] : Fin 1 → IVec S16 32) a x).toNat < S33792.size a := fun v599 k0_hw239 => k0_hw239

def k0_chk240 (v603 : IVec S16 32) : Prop :=
  (∀ a x, ((![v603] : Fin 1 → IVec S16 32) a x).toNat < S33792.size a)
theorem k0_idx240_inb : ∀ (v603 : IVec S16 32) (k0_hw240 : k0_chk240 v603), ∀ a x, ((![v603] : Fin 1 → IVec S16 32) a x).toNat < S33792.size a := fun v603 k0_hw240 => k0_hw240

def k0_chk241 (v605 : IVec S16 32) : Prop :=
  (∀ a x, ((![v605] : Fin 1 → IVec S16 32) a x).toNat < S1600.size a)
theorem k0_idx241_inb : ∀ (v605 : IVec S16 32) (k0_hw241 : k0_chk241 v605), ∀ a x, ((![v605] : Fin 1 → IVec S16 32) a x).toNat < S1600.size a := fun v605 k0_hw241 => k0_hw241

def k0_chk242 (v608 : IVec S16 32) : Prop :=
  (∀ a x, ((![v608] : Fin 1 → IVec S16 32) a x).toNat < S1600.size a)
theorem k0_idx242_inb : ∀ (v608 : IVec S16 32) (k0_hw242 : k0_chk242 v608), ∀ a x, ((![v608] : Fin 1 → IVec S16 32) a x).toNat < S1600.size a := fun v608 k0_hw242 => k0_hw242

def k0_chk243 (v610 : IVec S16 32) : Prop :=
  (∀ a x, ((![v610] : Fin 1 → IVec S16 32) a x).toNat < S33792.size a)
theorem k0_idx243_inb : ∀ (v610 : IVec S16 32) (k0_hw243 : k0_chk243 v610), ∀ a x, ((![v610] : Fin 1 → IVec S16 32) a x).toNat < S33792.size a := fun v610 k0_hw243 => k0_hw243

def k0_chk244 (v611 : IVec S16 32) : Prop :=
  (∀ a x, ((![v611] : Fin 1 → IVec S16 32) a x).toNat < S33792.size a)
theorem k0_idx244_inb : ∀ (v611 : IVec S16 32) (k0_hw244 : k0_chk244 v611), ∀ a x, ((![v611] : Fin 1 → IVec S16 32) a x).toNat < S33792.size a := fun v611 k0_hw244 => k0_hw244

def k0_chk245 (v615 : IVec S16 32) : Prop :=
  (∀ a x, ((![v615] : Fin 1 → IVec S16 32) a x).toNat < S33792.size a)
theorem k0_idx245_inb : ∀ (v615 : IVec S16 32) (k0_hw245 : k0_chk245 v615), ∀ a x, ((![v615] : Fin 1 → IVec S16 32) a x).toNat < S33792.size a := fun v615 k0_hw245 => k0_hw245

def k0_chk246 (v617 : IVec S16 32) : Prop :=
  (∀ a x, ((![v617] : Fin 1 → IVec S16 32) a x).toNat < S1600.size a)
theorem k0_idx246_inb : ∀ (v617 : IVec S16 32) (k0_hw246 : k0_chk246 v617), ∀ a x, ((![v617] : Fin 1 → IVec S16 32) a x).toNat < S1600.size a := fun v617 k0_hw246 => k0_hw246

def k0_chk247 (v620 : IVec S16 32) : Prop :=
  (∀ a x, ((![v620] : Fin 1 → IVec S16 32) a x).toNat < S1600.size a)
theorem k0_idx247_inb : ∀ (v620 : IVec S16 32) (k0_hw247 : k0_chk247 v620), ∀ a x, ((![v620] : Fin 1 → IVec S16 32) a x).toNat < S1600.size a := fun v620 k0_hw247 => k0_hw247

def k0_chk248 (v622 : IVec S16 32) : Prop :=
  (∀ a x, ((![v622] : Fin 1 → IVec S16 32) a x).toNat < S33792.size a)
theorem k0_idx248_inb : ∀ (v622 : IVec S16 32) (k0_hw248 : k0_chk248 v622), ∀ a x, ((![v622] : Fin 1 → IVec S16 32) a x).toNat < S33792.size a := fun v622 k0_hw248 => k0_hw248

def k0_chk249 (v623 : IVec S16 32) : Prop :=
  (∀ a x, ((![v623] : Fin 1 → IVec S16 32) a x).toNat < S33792.size a)
theorem k0_idx249_inb : ∀ (v623 : IVec S16 32) (k0_hw249 : k0_chk249 v623), ∀ a x, ((![v623] : Fin 1 → IVec S16 32) a x).toNat < S33792.size a := fun v623 k0_hw249 => k0_hw249

def k0_chk250 (v627 : IVec S16 32) : Prop :=
  (∀ a x, ((![v627] : Fin 1 → IVec S16 32) a x).toNat < S33792.size a)
theorem k0_idx250_inb : ∀ (v627 : IVec S16 32) (k0_hw250 : k0_chk250 v627), ∀ a x, ((![v627] : Fin 1 → IVec S16 32) a x).toNat < S33792.size a := fun v627 k0_hw250 => k0_hw250
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1056_i32_116 : BitVec 32 := 1056#32
  let v628 : BitVec 32 := Scalar.muli v2 c1056_i32_116
  ![v628.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x50 : Shape := ⟨2, ![1024, 50]⟩
abbrev S32x1 : Shape := ⟨2, ![32, 1]⟩
abbrev S1024x2 : Shape := ⟨2, ![1024, 2]⟩
abbrev S1024x1x50x1 : Shape := ⟨4, ![1024, 1, 50, 1]⟩
abbrev S1x32x1x1 : Shape := ⟨4, ![1, 32, 1, 1]⟩
abbrev S1024x32x50x1 : Shape := ⟨4, ![1024, 32, 50, 1]⟩
abbrev S_ : Shape := ⟨0, ![]⟩
abbrev S1024x32x50 : Shape := ⟨3, ![1024, 32, 50]⟩
abbrev S1024x32 : Shape := ⟨2, ![1024, 32]⟩
abbrev S1024x1x25x2 : Shape := ⟨4, ![1024, 1, 25, 2]⟩
abbrev S1x1024x1x2 : Shape := ⟨4, ![1, 1024, 1, 2]⟩
abbrev S1024x1024x25x2 : Shape := ⟨4, ![1024, 1024, 25, 2]⟩
abbrev S1024x1024x25 : Shape := ⟨3, ![1024, 1024, 25]⟩
abbrev S1024x1024 : Shape := ⟨2, ![1024, 1024]⟩
abbrev S1024x1056 : Shape := ⟨2, ![1024, 1056]⟩

abbrev nBuf : Space → Nat
  | .hbm => 32
  | .vmem => 0
  | .smem => 0
  | _ => 0

abbrev bufTy : (tb : Table) → Fin (tcTables nBuf tb) → BufTy
  | .hbm, ⟨0, _⟩ => ⟨S1024x50, .i32⟩
  | .hbm, ⟨1, _⟩ => ⟨S32x1, .i32⟩
  | .hbm, ⟨2, _⟩ => ⟨S1024x2, .i32⟩
  | .hbm, ⟨3, _⟩ => ⟨S1024x1x50x1, .i32⟩
  | .hbm, ⟨4, _⟩ => ⟨S1x32x1x1, .i32⟩
  | .hbm, ⟨5, _⟩ => ⟨S1024x32x50x1, .i32⟩
  | .hbm, ⟨6, _⟩ => ⟨S1024x32x50x1, .i32⟩
  | .hbm, ⟨7, _⟩ => ⟨S1024x32x50x1, .i1⟩
  | .hbm, ⟨8, _⟩ => ⟨S1024x32x50x1, .i32⟩
  | .hbm, ⟨9, _⟩ => ⟨S_, .i32⟩
  | .hbm, ⟨10, _⟩ => ⟨S1024x32x50, .i32⟩
  | .hbm, ⟨11, _⟩ => ⟨S_, .i32⟩
  | .hbm, ⟨12, _⟩ => ⟨S1024x32x50, .i32⟩
  | .hbm, ⟨13, _⟩ => ⟨S1024x32x50, .i1⟩
  | .hbm, ⟨14, _⟩ => ⟨S1024x32x50, .f32⟩
  | .hbm, ⟨15, _⟩ => ⟨S_, .f32⟩
  | .hbm, ⟨16, _⟩ => ⟨S1024x32, .f32⟩
  | .hbm, ⟨17, _⟩ => ⟨S1024x1x25x2, .i32⟩
  | .hbm, ⟨18, _⟩ => ⟨S1x1024x1x2, .i32⟩
  | .hbm, ⟨19, _⟩ => ⟨S1024x1024x25x2, .i32⟩
  | .hbm, ⟨20, _⟩ => ⟨S1024x1024x25x2, .i32⟩
  | .hbm, ⟨21, _⟩ => ⟨S1024x1024x25x2, .i1⟩
  | .hbm, ⟨22, _⟩ => ⟨S1024x1024x25x2, .i32⟩
  | .hbm, ⟨23, _⟩ => ⟨S_, .i32⟩
  | .hbm, ⟨24, _⟩ => ⟨S1024x1024x25, .i32⟩
  | .hbm, ⟨25, _⟩ => ⟨S_, .i32⟩
  | .hbm, ⟨26, _⟩ => ⟨S1024x1024x25, .i32⟩
  | .hbm, ⟨27, _⟩ => ⟨S1024x1024x25, .i1⟩
  | .hbm, ⟨28, _⟩ => ⟨S1024x1024x25, .f32⟩
  | .hbm, ⟨29, _⟩ => ⟨S_, .f32⟩
  | .hbm, ⟨30, _⟩ => ⟨S1024x1024, .f32⟩
  | .hbm, ⟨31, _⟩ => ⟨S1024x1056, .f32⟩
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_c_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_v17 : Ref sig .tc := ⟨.hbm, 24, rfl⟩
abbrev main_c_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Proof.KernelIdeal.Body.lean ====
/-
  The kernel's body as a short recursive program. The printed body is one straight line of two groups of
  twenty-five identical blocks (a block reads two token vectors and scatters three vectors of ones); here a block is
  one definition over the block's number, the two groups are two recursions over it, and `body_eq` says that the
  printed body is what they unfold to, between the copy in with the zeroing loop and the copy out.
-/
module

public import proofs.«01_k».proof.Proof.Gen.KernelIdeal
public import proofs.«01_k».proof.Proof.Gen.KernelIdeal.Skeleton

@[expose] public section

noncomputable section

namespace Cert.KernelIdeal.Ngram

open Cert.KernelIdeal Cert.KernelIdeal.Gen
open Idealize.ShloMosaic Idealize.SL.Sem

variable {F : FTy → Type} [FloatOps F]

/-- The programs of the vector subcore at grid point `i`. -/
abbrev TProg (F : FTy → Type) (i : grid0.Coords) (α : Type) : Type 1 :=
  Prog (TpuEff nD τ sig (Elt F) Λ₀ (.scVector ((i 0).castLE hcore0) ((i 1).castLE hsub0))) α

/-- Every lane of an index vector names a token of the tile's token scratch. -/
def TokIn (v : IVec S16 32) : Prop := ∀ a x, ((![v] : Fin 1 → IVec S16 32) a x).toNat < S1600.size a
/-- Every lane of an index vector names a bin of the tile's count scratch. -/
def CntIn (v : IVec S16 32) : Prop := ∀ a x, ((![v] : Fin 1 → IVec S16 32) a x).toNat < S33792.size a

/-- `TokIn` can be decided. -/
def tokInDec (v : IVec S16 32) : Decidable (TokIn v) := decidable_of_iff' _ (Iff.of_eq (TokIn.eq_1 v))
/-- `CntIn` can be decided. -/
def cntInDec (v : IVec S16 32) : Decidable (CntIn v) := decidable_of_iff' _ (Iff.of_eq (CntIn.eq_1 v))

variable {i : grid0.Coords} {α : Type}

/-- Read the tokens at an index vector, after the check that the index vector is in range. -/
def gat (arg4 : Memref sig .scVector .vmem S1600 .i32) (v : IVec S16 32) (k : Vec F S16 .i32 → TProg F i α) : TProg F i α :=
  .op (.assume (TokIn v) (tokInDec v)) fun h => SparseCore.vectorLoadIdx arg4 ![v] h.down (View.loads_vmem h_S1600) >>= k

/-- Add a vector into the counts at an index vector, after the check that the index vector is in range. -/
def sca (arg5 : Memref sig .scVector .vmem S33792 .f32) (v : IVec S16 32) (x : FVec F S16 .f32) (k : TProg F i α) : TProg F i α :=
  .op (.assume (CntIn v) (cntInDec v)) fun h =>
    SparseCore.vectorStoreIdx arg5 ![v] x (fun _ => 1#1) true h.down (View.stores_vmem_bits_univ h_S33792 rfl) >>= fun _ => k

/-- Block `p` of a group: tokens `2p` and `2p + 1` of each of the group's rows, and the three counts they add to. -/
def block (arg4 : Memref sig .scVector .vmem S1600 .i32) (arg5 : Memref sig .scVector .vmem S33792 .f32) (x : FVec F S16 .f32)
    (tok cnt big : IVec S16 32) (p : Nat) (k : TProg F i α) : TProg F i α :=
  gat arg4 (addi tok (broadcast S16 (BitVec.ofNat 32 (2 * p)))) fun a =>
  gat arg4 (addi tok (broadcast S16 (BitVec.ofNat 32 (2 * p + 1)))) fun b =>
  sca arg5 (addi cnt a) x <|
  sca arg5 (addi cnt b) x <|
  sca arg5 (addi (addi big (muli a (broadcast S16 32#32))) b) x k

/-- Blocks `p, p + 1, …, p + n - 1` of a group, in order. -/
def blocks (arg4 : Memref sig .scVector .vmem S1600 .i32) (arg5 : Memref sig .scVector .vmem S33792 .f32) (x : FVec F S16 .f32)
    (tok cnt big : IVec S16 32) : Nat → Nat → TProg F i α → TProg F i α
  | 0, _, k => k
  | n + 1, p, k => block arg4 arg5 x tok cnt big p (blocks arg4 arg5 x tok cnt big n (p + 1) k)

/-- The row numbers of group `g`: lane `l` is row `16 g + l`. -/
def rowVec (g : Nat) : IVec S16 32 := addi (broadcast S16 (BitVec.ofNat 32 (16 * g))) (iota .scVector S16 32 [0] iota_S16_d0_w32_scVector)
/-- Where each row of group `g` starts in the token scratch. -/
def tokBase (g : Nat) : IVec S16 32 := muli (rowVec g) (broadcast S16 50#32)
/-- Where each row of group `g` starts in the count scratch. -/
def cntBase (g : Nat) : IVec S16 32 := muli (rowVec g) (broadcast S16 1056#32)
/-- Where each row's counts of pairs start. -/
def bigBase (g : Nat) : IVec S16 32 := addi (cntBase g) (broadcast S16 32#32)
/-- The vector of ones. -/
def ones : FVec F S16 .f32 := broadcast S16 (Scalar.ofBits .f32 0x3F800000#32)

/-- Group `g`'s twenty-five blocks. -/
def group (arg4 : Memref sig .scVector .vmem S1600 .i32) (arg5 : Memref sig .scVector .vmem S33792 .f32) (g : Nat)
    (k : TProg F i α) : TProg F i α := blocks arg4 arg5 ones (tokBase g) (cntBase g) (bigBase g) 25 0 k

/-- What comes before the groups: the copy in, the wait for it, the loop that zeroes the counts. -/
def prologue (i : grid0.Coords) (arg2 : Memref sig .scVector .hbm S51200 .i32) (harg2 : arg2.IsWhole) (arg3 : Memref sig .scVector .hbm S1081344 .f32) (harg3 : arg3.IsWhole) (arg4 : Memref sig .scVector .vmem S1600 .i32) (harg4 : arg4.IsWhole) (arg5 : Memref sig .scVector .vmem S33792 .f32) (harg5 : arg5.IsWhole) (s0 s1 : DmaSems sig S_) (k : TProg F i α) : TProg F i α :=
  .op (.enqueueDma (arg2.slice (Rect.unit (s := S51200) (k0_off1 i) S1600.size (k0_off1_inb i)) (fun _ => rfl)) (.here arg4) (.dma s0.sem)
    (View.wordExact_bits rfl) harg4.wordExact ⟨Or.inl rfl, trivial⟩) fun _ =>
  .op (.waitDma2 s0.sem (arg2.slice (Rect.unit (s := S51200) (k0_off1 i) S1600.size (k0_off1_inb i)) (fun _ => rfl)) arg4
    (View.wordExact_bits rfl) harg4.wordExact) fun _ =>
  Scf.Loop.for k0_t1_loop k0_t1_ok ⟨⟩ (k0_t1_body i arg2 harg2 arg3 harg3 arg4 harg4 arg5 harg5 s0 s1) >>= fun _ => k

/-- What comes after the groups: the copy out and the wait for it. -/
def epilogue (i : grid0.Coords) (arg3 : Memref sig .scVector .hbm S1081344 .f32) (arg5 : Memref sig .scVector .vmem S33792 .f32) (harg5 : arg5.IsWhole) (s1 : DmaSems sig S_) : TProg F i PUnit :=
  .op (.enqueueDma arg5 (.here (arg3.slice (Rect.unit (s := S1081344) (k0_off3 i) S33792.size (k0_off3_inb i)) (fun _ => rfl))) (.dma s1.sem)
    harg5.wordExact (View.wordExact_bits rfl) ⟨Or.inl rfl, trivial⟩) fun _ =>
  .op (.waitDma2 s1.sem arg5 (arg3.slice (Rect.unit (s := S1081344) (k0_off3 i) S33792.size (k0_off3_inb i)) (fun _ => rfl))
    harg5.wordExact (View.wordExact_bits rfl)) fun _ => .ret ⟨⟩

section

variable (arg2 : Memref sig .scVector .hbm S51200 .i32) (harg2 : arg2.IsWhole) (arg3 : Memref sig .scVector .hbm S1081344 .f32) (harg3 : arg3.IsWhole)
  (arg4 : Memref sig .scVector .vmem S1600 .i32) (harg4 : arg4.IsWhole) (arg5 : Memref sig .scVector .vmem S33792 .f32) (harg5 : arg5.IsWhole)
  (s0 s1 : DmaSems sig S_)

/-- A continuation moves under the prologue. -/
theorem prologue_bind {β : Type} (k : TProg F i α) (f : α → TProg F i β) :
    prologue i arg2 harg2 arg3 harg3 arg4 harg4 arg5 harg5 s0 s1 k >>= f
      = prologue i arg2 harg2 arg3 harg3 arg4 harg4 arg5 harg5 s0 s1 (k >>= f) := by
  unfold prologue
  simp only [Prog.bind_op, bind_assoc]

/-- What the first window of the printed body does after the zeroing loop: the first block up to its last scatter. -/
def firstTail : TProg F i (Σ' (_ : BitVec 32) (_ : IVec S16 32) (_ : FVec F S16 .f32) (_ : IVec S16 32) (_ : IVec S16 32) (_ : IVec S16 32) (_ : Vec F S16 .i32) (_ : Vec F S16 .i32), IVec S16 32) :=
  gat arg4 (addi (tokBase 0) (broadcast S16 0#32)) fun a =>
  gat arg4 (addi (tokBase 0) (broadcast S16 1#32)) fun b =>
  sca arg5 (addi (cntBase 0) a) ones <|
  sca arg5 (addi (cntBase 0) b) ones <|
  .ret ⟨Scalar.muli (Scalar.addi (Scalar.muli (BitVec.ofNat 32 (i 1).val) 2#32) (BitVec.ofNat 32 (i 0).val)) 32#32,
    iota .scVector S16 32 [0] iota_S16_d0_w32_scVector, ones, tokBase 0, cntBase 0, bigBase 0, a, b, broadcast S16 32#32⟩

set_option maxRecDepth 65536 in
/-- The printed body's first window is the prologue and then that tail. -/
theorem part1_eq : k0_part1 (F := F) i arg2 harg2 arg3 harg3 arg4 harg4 arg5 harg5 s0 s1
    = prologue i arg2 harg2 arg3 harg3 arg4 harg4 arg5 harg5 s0 s1 (firstTail arg4 arg5) := rfl

set_option maxRecDepth 65536 in
set_option maxHeartbeats 40000000 in
/-- The printed body is the copy in, the zeroing loop, the two groups and the copy out: by unfolding. -/
theorem body_eq :
    cc0__ngram_counts_sc (F := F) i arg2 harg2 arg3 harg3 arg4 harg4 arg5 harg5 s0 s1
      = prologue i arg2 harg2 arg3 harg3 arg4 harg4 arg5 harg5 s0 s1 (group arg4 arg5 0 (group arg4 arg5 1 (epilogue i arg3 arg5 harg5 s1))) := by
  unfold cc0__ngram_counts_sc
  rw [part1_eq, prologue_bind]
  congr 1

end

end Cert.KernelIdeal.Ngram

end
-- ==== Proof.KernelIdeal.Values.lean ====
/-
  What the kernel's body computes, as pure functions: the counts of one tile as a fold of scatters over the blocks of
  the two groups, from the tokens in the tile's token scratch. And the arithmetic behind the body's checks: with tokens
  below 32, every index vector of a block names a place of the array it is used on.
-/
module

public import proofs.«01_k».proof.Proof.KernelIdeal.Body

@[expose] public section

noncomputable section

namespace Cert.KernelIdeal.Ngram

open Cert.KernelIdeal Cert.KernelIdeal.Gen
open Idealize.ShloMosaic Idealize.SL.Sem

variable {F : FTy → Type} [FloatOps F]

/-- The contents of a token scratch. -/
abbrev Toks : Type := S1600.Idx → BitVec 32
/-- The contents of a count scratch. -/
abbrev Cnts (F : FTy → Type) : Type := S33792.Idx → F .f32

/-- The tokens an index vector names (zero when it names none). -/
def ga (s : Toks) (v : IVec S16 32) : IVec S16 32 :=
  haveI := tokInDec v
  if h : TokIn v then fun x => s (idxAt (s := S1600) ![v] h x) else fun _ => 0

/-- The counts after a vector is added at an index vector (unchanged when it is out of range). -/
def scat (v : IVec S16 32) (x : FVec F S16 .f32) (c : Cnts F) : Cnts F :=
  haveI := cntInDec v
  if h : CntIn v then storeIdx (F := F) (s := S33792) (e := .f32) c ![v] x (fun _ => 1#1) true h else c

/-- The first token vector of block `p`. -/
def fstTok (s : Toks) (tok : IVec S16 32) (p : Nat) : IVec S16 32 := ga s (addi tok (broadcast S16 (BitVec.ofNat 32 (2 * p))))
/-- The second token vector of block `p`. -/
def sndTok (s : Toks) (tok : IVec S16 32) (p : Nat) : IVec S16 32 := ga s (addi tok (broadcast S16 (BitVec.ofNat 32 (2 * p + 1))))
/-- Where block `p` counts the pair. -/
def pairIx (s : Toks) (tok big : IVec S16 32) (p : Nat) : IVec S16 32 :=
  addi (addi big (muli (fstTok s tok p) (broadcast S16 32#32))) (sndTok s tok p)

/-- The counts after block `p`. -/
def blockVal (s : Toks) (tok cnt big : IVec S16 32) (p : Nat) (c : Cnts F) : Cnts F :=
  scat (pairIx s tok big p) ones (scat (addi cnt (sndTok s tok p)) ones (scat (addi cnt (fstTok s tok p)) ones c))

/-- The counts after blocks `p, …, p + n - 1`. -/
def blocksVal (s : Toks) (tok cnt big : IVec S16 32) : Nat → Nat → Cnts F → Cnts F
  | 0, _, c => c
  | n + 1, p, c => blocksVal s tok cnt big n (p + 1) (blockVal s tok cnt big p c)

/-- The counts after group `g`. -/
def groupVal (s : Toks) (g : Nat) (c : Cnts F) : Cnts F := blocksVal s (tokBase g) (cntBase g) (bigBase g) 25 0 c

/-- The zeroed counts. -/
def zeros : Cnts F := fun _ => Scalar.ofBits .f32 0x00000000#32

/-- The counts a tile leaves, from its tokens. -/
def tileVal (s : Toks) : Cnts F := groupVal s 1 (groupVal s 0 zeros)

/-- Every token of the scratch is below 32. -/
def Small (s : Toks) : Prop := ∀ j, (s j).toNat < 32

/-! ## The index vectors as numbers -/

/-- Lane `x` of group `g` is row `16 g + x`. -/
theorem rowVec_toNat (g : Nat) (hg : g < 2) (x : S16.Idx) : (rowVec g x).toNat = 16 * g + (x 0).val := by
  have hx : (x 0).val < 16 := (x 0).isLt
  have h : rowVec g x = BitVec.ofNat 32 (16 * g) + BitVec.ofNat 32 (x 0).val := by simp [rowVec, addi, broadcast, iota, IntOp.addi]
  rw [h, BitVec.toNat_add, BitVec.toNat_ofNat, BitVec.toNat_ofNat]; omega

/-- Where row `16 g + x` starts among the tokens. -/
theorem tokBase_toNat (g : Nat) (hg : g < 2) (x : S16.Idx) : (tokBase g x).toNat = (16 * g + (x 0).val) * 50 := by
  have hx : (x 0).val < 16 := (x 0).isLt
  show (rowVec g x * 50#32).toNat = _
  rw [BitVec.toNat_mul, rowVec_toNat g hg]; simp; omega

/-- Where row `16 g + x` starts among the counts. -/
theorem cntBase_toNat (g : Nat) (hg : g < 2) (x : S16.Idx) : (cntBase g x).toNat = (16 * g + (x 0).val) * 1056 := by
  have hx : (x 0).val < 16 := (x 0).isLt
  show (rowVec g x * 1056#32).toNat = _
  rw [BitVec.toNat_mul, rowVec_toNat g hg]; simp; omega

/-- Where the row's counts of pairs start. -/
theorem bigBase_toNat (g : Nat) (hg : g < 2) (x : S16.Idx) : (bigBase g x).toNat = (16 * g + (x 0).val) * 1056 + 32 := by
  have hx : (x 0).val < 16 := (x 0).isLt
  show (cntBase g x + 32#32).toNat = _
  rw [BitVec.toNat_add, cntBase_toNat g hg]; simp; omega

/-- The place of token `k` of row `16 g + x`. -/
theorem tokAt_toNat (g : Nat) (hg : g < 2) (k : Nat) (hk : k < 50) (x : S16.Idx) :
    (addi (tokBase g) (broadcast S16 (BitVec.ofNat 32 k)) x).toNat = (16 * g + (x 0).val) * 50 + k := by
  have hx : (x 0).val < 16 := (x 0).isLt
  show (tokBase g x + BitVec.ofNat 32 k).toNat = _
  rw [BitVec.toNat_add, tokBase_toNat g hg]; simp; omega

/-- The first fifty places of a row are in range. -/
theorem tokIn_of (g : Nat) (hg : g < 2) (k : Nat) (hk : k < 50) : TokIn (addi (tokBase g) (broadcast S16 (BitVec.ofNat 32 k))) := by
  intro a x
  obtain rfl : a = 0 := Subsingleton.elim _ _
  have hx : (x 0).val < 16 := (x 0).isLt
  show (addi (tokBase g) (broadcast S16 (BitVec.ofNat 32 k)) x).toNat < 1600
  rw [tokAt_toNat g hg k hk]; omega

/-- Tokens read from a scratch of tokens below 32 are below 32. -/
theorem ga_small (s : Toks) (hs : Small s) (v : IVec S16 32) (x : S16.Idx) : (ga s v x).toNat < 32 := by
  unfold ga
  split
  · exact hs _
  · show (0#32).toNat < 32; decide

/-- The bin a token counts in, as a number. -/
theorem uniIx_toNat (g : Nat) (hg : g < 2) (a : IVec S16 32) (ha : ∀ x, (a x).toNat < 32) (x : S16.Idx) :
    (addi (cntBase g) a x).toNat = (16 * g + (x 0).val) * 1056 + (a x).toNat := by
  have hx : (x 0).val < 16 := (x 0).isLt
  have := ha x
  show (cntBase g x + a x).toNat = _
  rw [BitVec.toNat_add, cntBase_toNat g hg]; omega

/-- The bin of a token is in range. -/
theorem uniIn_of (g : Nat) (hg : g < 2) (a : IVec S16 32) (ha : ∀ x, (a x).toNat < 32) : CntIn (addi (cntBase g) a) := by
  intro i x
  obtain rfl : i = 0 := Subsingleton.elim _ _
  have hx : (x 0).val < 16 := (x 0).isLt
  have := ha x
  show (addi (cntBase g) a x).toNat < 33792
  rw [uniIx_toNat g hg a ha]; omega

/-- The bin a pair of tokens counts in, as a number. -/
theorem biIx_toNat (g : Nat) (hg : g < 2) (a b : IVec S16 32) (ha : ∀ x, (a x).toNat < 32) (hb : ∀ x, (b x).toNat < 32) (x : S16.Idx) :
    (addi (addi (bigBase g) (muli a (broadcast S16 32#32))) b x).toNat
      = (16 * g + (x 0).val) * 1056 + 32 + (a x).toNat * 32 + (b x).toNat := by
  have hx : (x 0).val < 16 := (x 0).isLt
  have := ha x; have := hb x
  show (bigBase g x + a x * 32#32 + b x).toNat = _
  rw [BitVec.toNat_add, BitVec.toNat_add, BitVec.toNat_mul, bigBase_toNat g hg]; simp; omega

/-- The bin of a pair of tokens is in range. -/
theorem biIn_of (g : Nat) (hg : g < 2) (a b : IVec S16 32) (ha : ∀ x, (a x).toNat < 32) (hb : ∀ x, (b x).toNat < 32) :
    CntIn (addi (addi (bigBase g) (muli a (broadcast S16 32#32))) b) := by
  intro i x
  obtain rfl : i = 0 := Subsingleton.elim _ _
  have hx : (x 0).val < 16 := (x 0).isLt
  have := ha x; have := hb x
  show (addi (addi (bigBase g) (muli a (broadcast S16 32#32))) b x).toNat < 33792
  rw [biIx_toNat g hg a b ha hb]; omega

end Cert.KernelIdeal.Ngram

end
-- ==== Proof.KernelIdeal.Setup.lean ====
/-
  The program as the SparseCore launch theorem takes it: its configuration, its body table, and the resource algebra —
  the launch handshakes' rounds beside the counters of a tile's own copies.
-/
module

public import proofs.«01_k».proof.Proof.KernelIdeal.Values
public import Idealize.ShloMosaic.Lib.SparseCore.Quiescent
public import Idealize.ShloMosaic.Lib.SparseCore.Ops
public import Idealize.ShloMosaic.Lib.Transfers
public import Idealize.ShloMosaic.Lib.StableHlo.Run
public import Idealize.ShloMosaic.Lib.Tactic

@[expose] public section

noncomputable section

namespace Cert.KernelIdeal.Ngram

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the launch semaphores. -/
theorem cfgFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds and the counters of the copies in flight. -/
abbrev UH : Type := URounds (GSem nD τ sig) ℕ
abbrev UU : Type := UH × Counters

/-- The algebra the proof runs in. -/
abbrev MM (F : FTy → Type) : Type := MT nD τ sig (HIx 1) (Elt F) ℕ UU ℕ

def EH : Emb UH (MM F) :=
  (Emb.inl : Emb UH UU).trans (uEmb (nD := nD) (sig := sig) (Ix := HIx 1) (Val := Elt F) (Name := ℕ) (U := UU) (Lvl := ℕ)).toEmb

instance EH_landsIn : (EH : Emb UH (MM F)).LandsIn (upEmb : UEmb _ (MM F)) := by unfold EH; infer_instance

/-- The embedding of the copies' counters. -/
abbrev EC : UEmb Counters (MM F) := countersEmb

/-- The SparseCore and the subcore of a grid point. -/
abbrev cV (L : grid0.Coords) : Fin τ.nSC := (L 0).castLE hcore0
abbrev jV (L : grid0.Coords) : Fin τ.nSub := (L 1).castLE hsub0

/-- The arrays as a vector subcore names them: the tokens, the counts, and the subcore's two scratches. -/
abbrev tV : Memref sig .scVector .hbm S51200 .i32 := Memref.whole main_v0_scv
abbrev oV : Memref sig .scVector .hbm S1081344 .f32 := Memref.whole main_v1_scv
abbrev sT : Memref sig .scVector .vmem S1600 .i32 := Memref.whole cc0_scratch0
abbrev sC : Memref sig .scVector .vmem S33792 .f32 := Memref.whole cc0_scratch1

/-- The token scratch of grid point `L`'s subcore, held at `s`. -/
abbrev tokPts (d : Dev nD) (L : grid0.Coords) (s : Toks) : sProp (MM F) := (V d (cV L) (jV L)).loc cc0_scratch0 ↦{fullShare} s
/-- The count scratch of grid point `L`'s subcore, held at `c`. -/
abbrev cntPts (d : Dev nD) (L : grid0.Coords) (c : Cnts F) : sProp (MM F) := (V d (cV L) (jV L)).loc cc0_scratch1 ↦{fullShare} c

end Cert.KernelIdeal.Ngram

end
-- ==== Proof.KernelIdeal.Steps.lean ====
/-
  The groups run: from the two scratches held, a block's checks pass when the tokens are below 32, and it leaves the
  counts `blockVal` says; so the blocks leave `blocksVal` and a group `groupVal`.
-/
module

public import proofs.«01_k».proof.Proof.KernelIdeal.Setup

@[expose] public section

noncomputable section

namespace Cert.KernelIdeal.Ngram

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] {α : Type} (d : Dev nD) (L : grid0.Coords)

/-- The run of a program of grid point `L`'s subcore from a resource to a post. -/
abbrev twp (p : TProg F L α) (Q : α → sProp (MM F)) : sProp (MM F) :=
  wp frame (wpE (defs₀ (F := F)) 𝒱₀ (V d (cV L) (jV L)) none) Set.univ p Q

/-- The whole token scratch through the gather's view. -/
theorem tok_view (s : Toks) :
    ((((sT : Memref sig .scVector .vmem S1600 .i32).access (.whole S1600)).loc (V d (cV L) (jV L)) ↦[Finset.univ]{fullShare} s) : sProp (MM F)) = tokPts d L s := rfl

/-- The whole count scratch through the scatter's view. -/
theorem cnt_view (c : Cnts F) :
    ((((sC : Memref sig .scVector .vmem S33792 .f32).access (.whole S33792)).loc (V d (cV L) (jV L))
      ↦[((sC : Memref sig .scVector .vmem S33792 .f32).access (.whole S33792)).set]{fullShare} c) : sProp (MM F)) = cntPts d L c := by
  rw [show ((sC : Memref sig .scVector .vmem S33792 .f32).access (.whole S33792)).set = Finset.univ from Memref.set_access_whole (cc0_scratch1 : Ref sig .scVector)]

/-- A gather whose index vector is in range continues at the tokens it names. -/
theorem wp_gat (s : Toks) (v : IVec S16 32) (h : TokIn v) (k : Vec F S16 .i32 → TProg F L α) (Q : α → sProp (MM F)) :
    tokPts d L s ⊢ iprop((tokPts d L s -∗ twp d L (k (ga s v)) Q) -∗ twp d L (gat sT v k) Q) := by
  unfold gat twp
  rw [wp_assume_of _ _ _ _ h]
  have e : ga s v = loadIdx (F := F) (s := S1600) (e := .i32) s ![v] h := by unfold ga; exact dif_pos h
  rw [e]
  have hw := SparseCore.wp_vectorLoadIdx (Ix := HIx 1) (Name := ℕ) (U := UU) (Lvl := ℕ) (defs := defs₀ (F := F)) (Q := Q) 𝒱₀ (V d (cV L) (jV L)) none Set.univ
    (base := sT) (idxs := ![v]) (h := h) (hl := View.loads_vmem h_S1600) (k := k) (S := Finset.univ) (q := fullShare) (f := s) (Finset.subset_univ _)
  rw [show ((sT : Memref sig .scVector .vmem S1600 .i32).access (.whole S1600)).read (Elt F) s = s from Memref.read_access_whole _ _ _] at hw
  exact hw

/-- A scatter whose index vector is in range continues with the vector added to the counts. -/
theorem wp_sca (c : Cnts F) (v : IVec S16 32) (x : FVec F S16 .f32) (h : CntIn v) (k : TProg F L α) (Q : α → sProp (MM F)) :
    cntPts d L c ⊢ iprop((cntPts d L (scat v x c) -∗ twp d L k Q) -∗ twp d L (sca sC v x k) Q) := by
  unfold sca twp
  rw [wp_assume_of _ _ _ _ h]
  have e : scat v x c = storeIdx (F := F) (s := S33792) (e := .f32) c ![v] x (fun _ => 1#1) true h := by unfold scat; exact dif_pos h
  rw [e, ← cnt_view (F := F) d L c, ← cnt_view (F := F) d L (storeIdx (F := F) (s := S33792) (e := .f32) c ![v] x (fun _ => 1#1) true h)]
  have hw := SparseCore.wp_vectorStoreIdx (Ix := HIx 1) (Name := ℕ) (U := UU) (Lvl := ℕ) (defs := defs₀ (F := F)) (Q := Q) 𝒱₀ (V d (cV L) (jV L)) none Set.univ
    (base := sC) (idxs := ![v]) (v := x) (mask := fun _ => 1#1) (add := true) (h := h) (hs := View.stores_vmem_bits_univ h_S33792 rfl) (k := fun _ => k) (f := c)
  rw [show ((sC : Memref sig .scVector .vmem S33792 .f32).access (.whole S33792)).read (Elt F) c = c from Memref.read_access_whole _ _ _,
    show ∀ w, ((sC : Memref sig .scVector .vmem S33792 .f32).access (.whole S33792)).write (Elt F) c w Finset.univ = w from
      fun w => Memref.write_access_whole_univ _ _ _ _] at hw
  exact hw

/-- Block `p` of group `g` runs and leaves `blockVal`. -/
theorem wp_block (s : Toks) (hs : Small s) (g : Nat) (hg : g < 2) (p : Nat) (hp : p < 25) (c : Cnts F) (k : TProg F L α) (Q : α → sProp (MM F)) :
    iprop(tokPts d L s ∗ cntPts d L c)
      ⊢ iprop(((tokPts d L s ∗ cntPts d L (blockVal s (tokBase g) (cntBase g) (bigBase g) p c)) -∗ twp d L k Q)
          -∗ twp d L (block sT sC ones (tokBase g) (cntBase g) (bigBase g) p k) Q) := by
  unfold block blockVal
  iintro ⟨Ht, Hc⟩ Hk
  iapply (wp_gat d L s _ (tokIn_of g hg (2 * p) (by omega))) $$ Ht; iintro Ht
  iapply (wp_gat d L s _ (tokIn_of g hg (2 * p + 1) (by omega))) $$ Ht; iintro Ht
  iapply (wp_sca d L _ _ _ (uniIn_of g hg (fstTok s (tokBase g) p) (ga_small s hs _))) $$ Hc; iintro Hc
  iapply (wp_sca d L _ _ _ (uniIn_of g hg (sndTok s (tokBase g) p) (ga_small s hs _))) $$ Hc; iintro Hc
  iapply (wp_sca d L _ _ _ (biIn_of g hg (fstTok s (tokBase g) p) (sndTok s (tokBase g) p) (ga_small s hs _) (ga_small s hs _))) $$ Hc; iintro Hc
  iapply Hk
  isplitl [Ht]; · iexact Ht
  iexact Hc

/-- Blocks `p, …, p + n - 1` of group `g` run and leave `blocksVal`. -/
theorem wp_blocks (s : Toks) (hs : Small s) (g : Nat) (hg : g < 2) (k : TProg F L α) (Q : α → sProp (MM F)) :
    ∀ (n p : Nat) (_ : p + n ≤ 25) (c : Cnts F), iprop(tokPts d L s ∗ cntPts d L c)
      ⊢ iprop(((tokPts d L s ∗ cntPts d L (blocksVal s (tokBase g) (cntBase g) (bigBase g) n p c)) -∗ twp d L k Q)
          -∗ twp d L (blocks sT sC ones (tokBase g) (cntBase g) (bigBase g) n p k) Q)
  | 0, p, _, c => by
      iintro H Hk
      iapply Hk; iexact H
  | n + 1, p, hn, c => by
      have ih := wp_blocks s hs g hg k Q n (p + 1) (by omega) (blockVal s (tokBase g) (cntBase g) (bigBase g) p c)
      show _ ⊢ iprop(_ -∗ twp d L (block sT sC ones (tokBase g) (cntBase g) (bigBase g) p (blocks sT sC ones (tokBase g) (cntBase g) (bigBase g) n (p + 1) k)) Q)
      iintro H Hk
      iapply (wp_block d L s hs g hg p (by omega) c) $$ H; iintro H
      iapply ih $$ H; iexact Hk

/-- Group `g` runs and leaves `groupVal`. -/
theorem wp_group (s : Toks) (hs : Small s) (g : Nat) (hg : g < 2) (c : Cnts F) (k : TProg F L α) (Q : α → sProp (MM F)) :
    iprop(tokPts d L s ∗ cntPts d L c)
      ⊢ iprop(((tokPts d L s ∗ cntPts d L (groupVal s g c)) -∗ twp d L k Q) -∗ twp d L (group sT sC g k) Q) :=
  wp_blocks d L s hs g hg k Q 25 0 (by omega) c

end Cert.KernelIdeal.Ngram

end
-- ==== Proof.KernelIdeal.Zero.lean ====
/-
  The zeroing loop: a round's eight stores each extend the zeroed stretch of the count scratch by sixteen, so the loop's
  264 rounds leave every count zero.
-/
module

public import proofs.«01_k».proof.Proof.KernelIdeal.Steps

@[expose] public section

noncomputable section

namespace Cert.KernelIdeal.Ngram

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] {α : Type} (d : Dev nD) (L : grid0.Coords)

/-- The first `n` counts are zero. -/
def ZeroTo (n : Nat) (c : Cnts F) : Prop := ∀ j, (j 0).val < n → c j = zeros j

/-- Sixteen counts from `n` on. -/
abbrev span (off : Fin 1 → Nat) (h : ∀ a, off a + S16.size a ≤ S33792.size a) : Rect S33792 := Rect.unit (s := S33792) off S16.size h

/-- Storing the zero vector at `n` extends the zeroed stretch by sixteen. -/
theorem zeroTo_store (n : Nat) (off : Fin 1 → Nat) (ho : off = ![n]) (h : ∀ a, off a + S16.size a ≤ S33792.size a) (c : Cnts F) (hc : ZeroTo n c) :
    ZeroTo (n + 16) (((sC : Memref sig .scVector .vmem S33792 .f32).access (span off h)).write (Elt F) c (k0_pay2 (F := F)) Finset.univ) := by
  subst ho
  intro j hj
  by_cases hm : n ≤ (j 0).val
  · have e : j = ((sC : Memref sig .scVector .vmem S33792 .f32).access (span ![n] h)).emb (Shape.ofLane (d := ![16]) ⟨(j 0).val - n, by show _ < 16; omega⟩) := by
      funext a; obtain rfl : a = 0 := Subsingleton.elim _ _
      apply Fin.ext
      show (j 0).val = n + 1 * ((j 0).val - n)
      omega
    rw [e, View.write_emb_of_mem (h := Finset.mem_univ _)]
    rfl
  · rw [View.write_of_not_mem (h := fun hj' => hm ?_)]
    · exact hc j (by omega)
    · obtain ⟨x, -, rfl⟩ := Finset.mem_map.mp hj'
      show n ≤ n + 1 * (x 0).val
      omega

/-- The count scratch with its first `n` counts zero. -/
abbrev zPts (n : Nat) : sProp (MM F) := iprop(∃ c, ⌜ZeroTo n c⌝ ∗ cntPts (F := F) d L c)

/-- One load and store of the loop's round. -/
theorem wp_zstep (n : Nat) (off : Fin 1 → Nat) (ho : off = ![n]) (h : ∀ a, off a + S16.size a ≤ S33792.size a)
    (k : TProg F L α) (Q : α → sProp (MM F)) :
    zPts d L n ⊢ iprop((zPts d L (n + 16) -∗ twp d L k Q)
      -∗ twp d L (.op (.load (sC : Memref sig .scVector .vmem S33792 .f32) (span off h).toLoadRect (View.loadsAt_vmem h_S16)) fun _ =>
          .op (.store (sC : Memref sig .scVector .vmem S33792 .f32) (span off h) (k0_pay2 (F := F)) Finset.univ (View.stores_vmem_bits_univ h_S16 rfl) (.inl rfl)) fun _ => k) Q) := by
  iintro ⟨%c, %hc, H⟩ Hk
  iapply (wp_load 𝒱₀ (V d (cV L) (jV L)) none Set.univ (m := (sC : Memref sig .scVector .vmem S33792 .f32)) (S := Finset.univ) (f := c) (Finset.subset_univ _)) $$ H; iintro H
  iapply (wp_store 𝒱₀ (V d (cV L) (jV L)) none Set.univ (m := (sC : Memref sig .scVector .vmem S33792 .f32)) (r := span off h) (Mk := Finset.univ) (S := Finset.univ) (f := c) (Finset.subset_univ _)) $$ H; iintro H
  iapply Hk
  iexists _; isplitr; · ipureintro; exact zeroTo_store n off ho h c hc
  iexact H

/-- A round of the loop zeroes 128 counts more. -/
theorem wp_round (t : Fin k0_t1_loop.trips) :
    zPts (F := F) d L (128 * t.val)
      ⊢ twp d L (k0_t1_body L tV (Memref.isWhole_whole _) oV (Memref.isWhole_whole _) sT (Memref.isWhole_whole _) sC (Memref.isWhole_whole _) cc0_scoped0 cc0_scoped1 t ())
          fun _ => zPts d L (128 * (t.val + 1)) := by
  unfold k0_t1_body
  simp only [Prog.lift, Prog.bind_op, Prog.bind_ret, Prog.pure_eq_ret]
  iintro H
  iapply (wp_zstep d L (128 * t.val) _ (k0_off2_eq t 0) _ _) $$ H; iintro H
  iapply (wp_zstep d L (128 * t.val + 16) _ (k0_off2_eq t 1) _ _) $$ H; iintro H
  iapply (wp_zstep d L (128 * t.val + 32) _ (k0_off2_eq t 2) _ _) $$ H; iintro H
  iapply (wp_zstep d L (128 * t.val + 48) _ (k0_off2_eq t 3) _ _) $$ H; iintro H
  iapply (wp_zstep d L (128 * t.val + 64) _ (k0_off2_eq t 4) _ _) $$ H; iintro H
  iapply (wp_zstep d L (128 * t.val + 80) _ (k0_off2_eq t 5) _ _) $$ H; iintro H
  iapply (wp_zstep d L (128 * t.val + 96) _ (k0_off2_eq t 6) _ _) $$ H; iintro H
  iapply (wp_zstep d L (128 * t.val + 112) _ (k0_off2_eq t 7) _ _) $$ H; iintro H
  unfold twp; rw [wp_ret]; imodintro
  iexact H

/-- The loop, from any counts, leaves every count zero. -/
theorem wp_zero (c : Cnts F) (k : TProg F L α) (Q : α → sProp (MM F)) :
    cntPts d L c ⊢ iprop((cntPts d L zeros -∗ twp d L k Q)
      -∗ twp d L (Scf.Loop.for k0_t1_loop k0_t1_ok ⟨⟩ (k0_t1_body L tV (Memref.isWhole_whole _) oV (Memref.isWhole_whole _) sT (Memref.isWhole_whole _) sC (Memref.isWhole_whole _) cc0_scoped0 cc0_scoped1) >>= fun _ => k) Q) := by
  have ht : k0_t1_loop.trips = 264 := by decide +kernel
  iintro H Hk
  iapply (Scf.wp_for_bind frame (wpE (defs₀ (F := F)) 𝒱₀ (V d (cV L) (jV L)) none) Set.univ k0_t1_loop.lb k0_t1_loop.ub k0_t1_loop.st k0_t1_ok ⟨⟩ _
    (fun n _ => zPts d L (128 * n)) (fun t _ => wp_round d L t)) $$ [H]
  · iexists c; isplitr; · ipureintro; exact fun j hj => absurd hj (by omega)
    iexact H
  iintro %_ ⟨%c', %hc', H⟩
  have e : c' = zeros := funext fun j => hc' j (by
    have hj : (j 0).val < 33792 := (j 0).isLt
    have : Scf.trips k0_t1_loop.lb k0_t1_loop.ub k0_t1_loop.st = 264 := ht
    omega)
  rw [e]
  iapply Hk; iexact H

end Cert.KernelIdeal.Ngram

end
-- ==== Proof.KernelIdeal.Tile.lean ====
/-
  One tile's task: it copies its 1600 tokens in, zeroes its counts, runs the two groups, and copies its 33792 counts out
  to its stretch of the counts array.
-/
module

public import proofs.«01_k».proof.Proof.KernelIdeal.Zero

@[expose] public section

noncomputable section

namespace Cert.KernelIdeal.Ngram

open Cert.KernelIdeal Cert.KernelIdeal.Gen
open Idealize.ShloMosaic
open Idealize.ShloMosaic.SparseCore (S V T)
open Idealize.ShloMosaic.SparseCore.Cfg (HIx Pay ownBufs ownSems0 ownRefs ownCells mem_ownCells)
open Idealize.SL Idealize.SL.RA Idealize.SL.BI
open scoped Idealize.SL.BI
open Idealize.SL.BI.BIBase Idealize.SL.BI.Laws Idealize.SL.ProofMode Idealize.SL.Sem

variable {F : FTy → Type}

/-- The tokens, flat, and the counts, flat, as locations of device `d`. -/
abbrev tLoc (d : Dev nD) : Loc nD τ sig := (SparseCore.T d).loc main_v0
abbrev oLoc (d : Dev nD) : Loc nD τ sig := (SparseCore.T d).loc main_v1

/-- Contents of the flat tokens and of the flat counts. -/
abbrev Flat : Type := S51200.Idx → BitVec 32
abbrev FlatOut (F : FTy → Type) : Type := S1081344.Idx → F .f32

/-- Tile `w`'s stretch of the tokens and of the counts. -/
def tokSet (w : Nat) : Finset S51200.Idx := Finset.univ.filter fun j => (j 0).val / 1600 = w
def cntSet (w : Nat) : Finset S1081344.Idx := Finset.univ.filter fun j => (j 0).val / 33792 = w

/-- Tile `w`'s tokens among the flat tokens `v` (0 past the end). -/
def slab (v : Flat) (w : Nat) : Toks := fun j =>
  if h : 1600 * w + (j 0).val < 51200 then v (Shape.ofLane (d := ![51200]) ⟨1600 * w + (j 0).val, h⟩) else 0#32

/-- The counts the tiles leave, from the flat tokens `v`. -/
def outC [FloatOps F] (v : Flat) : FlatOut F := fun j =>
  tileVal (slab v ((j 0).val / 33792)) (Shape.ofLane (d := ![33792]) ⟨(j 0).val % 33792, Nat.mod_lt _ (by decide)⟩)

/-- Word `x` of tile `w`'s stretch of the counts array is the tile's own count there. -/
theorem outC_at [FloatOps F] (v : Flat) (j : S1081344.Idx) (w : Nat) (x : S33792.Idx) (h : (j 0).val = 33792 * w + (x 0).val) :
    outC (F := F) v j = tileVal (slab v w) x := by
  have hx : (x 0).val < 33792 := (x 0).isLt
  unfold outC
  have e1 : (j 0).val / 33792 = w := by omega
  have e2 : (Shape.ofLane (d := ![33792]) ⟨(j 0).val % 33792, Nat.mod_lt _ (by decide)⟩ : S33792.Idx) = x := by
    funext (a : Fin 1); obtain rfl : a = 0 := Subsingleton.elim _ _
    apply Fin.ext
    show (j 0).val % 33792 = (x 0).val
    omega
  rw [e1]
  exact congrArg _ e2

/-- The number of the tile at grid point `L`. -/
def wid (L : grid0.Coords) : Nat := 2 * (L 1).val + (L 0).val

theorem wid_lt (L : grid0.Coords) : wid L < 32 := by
  have h0 : (L 0).val < 2 := (L 0).isLt
  have h1 : (L 1).val < 16 := (L 1).isLt
  unfold wid; omega

theorem slab_small {v : Flat} (hv : ∀ j, (v j).toNat < 32) (w : Nat) : Small (slab v w) := by
  intro j; unfold slab; split
  · exact hv _
  · simp

/-- The tile's stretches as its copies name them. -/
abbrev tRect (L : grid0.Coords) : Rect S51200 := Rect.unit (s := S51200) (k0_off1 L) S1600.size (k0_off1_inb L)
abbrev oRect (L : grid0.Coords) : Rect S1081344 := Rect.unit (s := S1081344) (k0_off3 L) S33792.size (k0_off3_inb L)
abbrev tK (L : grid0.Coords) : Memref sig .scVector .hbm S1600 .i32 := (tV : Memref sig .scVector .hbm S51200 .i32).slice (tRect L) (fun _ => rfl)
abbrev oK (L : grid0.Coords) : Memref sig .scVector .hbm S33792 .f32 := (oV : Memref sig .scVector .hbm S1081344 .f32).slice (oRect L) (fun _ => rfl)

variable (d : Dev nD) (L : grid0.Coords)

/-- Where word `x` of the copied-in tokens lies among the flat tokens, and where word `x` of the counts goes. -/
theorem tK_emb (x : S1600.Idx) : (((tK L).view.emb x : S51200.Idx) 0).val = 1600 * wid L + (x 0).val := by
  show (k0_off1 L) 0 + 1 * (x 0).val = _
  rw [k0_off1_eq]; show 3200 * (L 1).val + 1600 * (L 0).val + 1 * (x 0).val = _; unfold wid; omega
theorem oK_emb (x : S33792.Idx) : (((oK L).view.emb x : S1081344.Idx) 0).val = 33792 * wid L + (x 0).val := by
  show (k0_off3 L) 0 + 1 * (x 0).val = _
  rw [k0_off3_eq]; show 67584 * (L 1).val + 33792 * (L 0).val + 1 * (x 0).val = _; unfold wid; omega

theorem set_tK : (tK L).view.set = tokSet (wid L) := by
  ext j
  constructor
  · intro h
    obtain ⟨x, -, rfl⟩ := Finset.mem_map.mp h
    have hx : (x 0).val < 1600 := (x 0).isLt
    refine Finset.mem_filter.mpr ⟨Finset.mem_univ _, ?_⟩
    rw [tK_emb]; omega
  · intro h
    have h2 := (Finset.mem_filter.mp h).2
    refine Finset.mem_map.mpr ⟨Shape.ofLane (d := ![1600]) ⟨(j 0).val % 1600, Nat.mod_lt _ (by decide)⟩, Finset.mem_univ _, ?_⟩
    funext (a : Fin 1); obtain rfl : a = 0 := Subsingleton.elim _ _
    apply Fin.ext
    rw [tK_emb]; show 1600 * wid L + (j 0).val % 1600 = _
    omega
theorem set_oK : (oK L).view.set = cntSet (wid L) := by
  ext j
  constructor
  · intro h
    obtain ⟨x, -, rfl⟩ := Finset.mem_map.mp h
    have hx : (x 0).val < 33792 := (x 0).isLt
    refine Finset.mem_filter.mpr ⟨Finset.mem_univ _, ?_⟩
    rw [oK_emb]; omega
  · intro h
    have h2 := (Finset.mem_filter.mp h).2
    refine Finset.mem_map.mpr ⟨Shape.ofLane (d := ![33792]) ⟨(j 0).val % 33792, Nat.mod_lt _ (by decide)⟩, Finset.mem_univ _, ?_⟩
    funext (a : Fin 1); obtain rfl : a = 0 := Subsingleton.elim _ _
    apply Fin.ext
    rw [oK_emb]; show 33792 * wid L + (j 0).val % 33792 = _
    omega

/-- What the copy in lands is the tile's tokens. -/
theorem copied_in (f : Toks) (v : Flat) :
    (sT : Memref sig .scVector .vmem S1600 .i32).view.write (Elt F) f ((tK L).view.read (Elt F) v) Finset.univ = slab v (wid L) := by
  refine (View.write_whole_univ _ _ _).trans ?_
  funext x
  have hx : (x 0).val < 1600 := (x 0).isLt
  have hw := wid_lt L
  refine ((View.read_apply _ _).trans (cast_eq _ _)).trans ?_
  unfold slab
  rw [dif_pos (by omega)]
  refine congrArg v ?_
  funext (a : Fin 1); obtain rfl : a = 0 := Subsingleton.elim _ _
  exact Fin.ext (tK_emb L x)

/-- What the copy out leaves on the tile's stretch is the counts array's contents there. -/
theorem copied_out [FloatOps F] (o : FlatOut F) (v : Flat) : ∀ j ∈ cntSet (wid L),
    (oK L).view.write (Elt F) o ((sC : Memref sig .scVector .vmem S33792 .f32).view.read (Elt F) (tileVal (F := F) (slab v (wid L)))) Finset.univ j = outC v j := by
  intro j hj
  rw [← set_oK] at hj
  obtain ⟨x, -, rfl⟩ := Finset.mem_map.mp hj
  have hx : (x 0).val < 33792 := (x 0).isLt
  rw [View.write_emb_of_mem (h := Finset.mem_univ _)]
  refine (cast_eq _ _).trans ?_
  rw [show (sC : Memref sig .scVector .vmem S33792 .f32).view.read (Elt F) (tileVal (F := F) (slab v (wid L))) = tileVal (F := F) (slab v (wid L)) from View.read_whole _ _]
  have e := oK_emb L x
  exact (outC_at v _ (wid L) x e).symm

/-- Tile `w`'s stretch of the flat tokens and of the counts array, held. -/
abbrev tPart (w : Nat) (v : Flat) : sProp (MM F) := tLoc d ↦[tokSet w]{fullShare} v
abbrev oPart (w : Nat) (o : FlatOut F) : sProp (MM F) := oLoc d ↦[cntSet w]{fullShare} o

theorem pts_tK (v : Flat) : (((tK L).view.loc (V d (cV L) (jV L)) ↦[(tK L).view.set]{fullShare} v) : sProp (MM F)) = tPart d (wid L) v := by rw [set_tK]
theorem pts_oK (o : FlatOut F) : (((oK L).view.loc (V d (cV L) (jV L)) ↦[cntSet (wid L)]{fullShare} o) : sProp (MM F)) = oPart d (wid L) o := rfl
theorem pts_sC (c : Cnts F) : (((sC : Memref sig .scVector .vmem S33792 .f32).view.loc (V d (cV L) (jV L)) ↦[(sC : Memref sig .scVector .vmem S33792 .f32).view.set]{fullShare} c) : sProp (MM F))
    = cntPts d L c := by simp only [Memref.view_whole, View.set_whole]

/-- The two copies' semaphores. -/
abbrev inCell : GSem nD τ sig := (V d (cV L) (jV L), .dma cc0_scoped0.sem)
abbrev outCell : GSem nD τ sig := (V d (cV L) (jV L), .dma cc0_scoped1.sem)

/-- The tile's semaphores: the two copies' and the rest. -/
theorem sems_split : (ownSems0 (V d (cV L) (jV L)) : sProp (MM F))
    = iprop(semVal (inCell d L) 0 ∗ semVal (outCell d L) 0
        ∗ bigSep (((ownCells (V d (cV L) (jV L))).erase (inCell d L)).erase (outCell d L)) fun g => semVal g 0) := by
  unfold SparseCore.Cfg.ownSems0
  rw [SparseCore.bigSep_erase' ((mem_ownCells (g := inCell d L)).mpr ⟨rfl, by
      show (SemLoc.dma cc0_scoped0.sem : SemLoc sig).isScoped .scVector = true; decide⟩),
    SparseCore.bigSep_erase' (Finset.mem_erase.mpr ⟨by simp [inCell, outCell]; decide, (mem_ownCells (g := outCell d L)).mpr ⟨rfl, by
      show (SemLoc.dma cc0_scoped1.sem : SemLoc sig).isScoped .scVector = true; decide⟩⟩)]

/-- The tile's buffers: the two scratches and the rest. -/
theorem bufs_split : (ownBufs (V d (cV L) (jV L)) : sProp (MM F))
    = iprop((∃ f, tokPts d L f) ∗ (∃ f, cntPts d L f)
        ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]
  rfl

variable [FloatOps F]

/-- The task of the tile at grid point `L`: from its tokens `v` (below 32) and its stretch of the counts array, it
    leaves the stretch at `outC v`. -/
theorem tile_body (v : Flat) (hv : ∀ j, (v j).toNat < 32) (o : FlatOut F) (O : CellTallies nD τ sig (HIx 1)) (W : Waits sig (HIx 1)) (hO : ∀ g, O g none = 0) :
    iprop(levAts (K (F := F)).L (K (F := F)).lev ∗ emp ∗ (tPart d (wid L) v ∗ oPart d (wid L) o)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__ngram_counts_sc L tV (Memref.isWhole_whole _) oV (Memref.isWhole_whole _) sT (Memref.isWhole_whole _) sC (Memref.isWhole_whole _) cc0_scoped0 cc0_scoped1)
          fun _ => iprop((tPart d (wid L) v ∗ oPart d (wid L) (outC v)) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [body_eq, (K (F := F)).scopedBufs_V cfgFacts d (cV L) (jV L), SparseCore.Cfg.scopedSems0_V (Val := Elt F) d (cV L) (jV L), sems_split, bufs_split]
  unfold prologue
  have hs := slab_small hv (wid L)
  iintro ⟨#Hlv, -, ⟨Ht, Ho⟩, ⟨⟨%fs, Hs⟩, ⟨%fc, Hc⟩, Hbufs⟩, ⟨HsemA, HsemB, Hsems⟩, HO⟩
  -- the copy in
  ihave Ht := (Entails.of_eq (pts_tK (F := F) d L v).symm) $$ Ht
  iapply (Transfers.wp_dmaLocal EC 𝒱₀ (V d (cV L) (jV L)) none (src := tK L) (dst := (sT : Memref sig .scVector .vmem S1600 .i32)) (q := fullShare) (fs := v) (fd := fs) (Sd := Finset.univ)
    (none : HIx 1) (sT : Memref sig .scVector .vmem S1600 .i32).view.dmaCredit rfl (View.dmaCredit_pos _ (by decide)) (Finset.subset_univ _)) $$ [Ht Hs HsemA]
  · isplitl [Ht]; · iexact Ht
    isplitl [Hs]; · iexact Hs
    iexact HsemA
  iintro Hfl
  iapply (Transfers.wp_waitLocalO EC 𝒱₀ (V d (cV L) (jV L)) none (none : HIx 1) rfl) $$ [Hfl HO]
  · isplitl [Hfl]; · iexact Hfl
    isplitl [HO]; · iexact HO
    iapply ((K (F := F)).mayWait_none (SemLoc.dma cc0_scoped0.sem) hO); iexact Hlv
  iintro ⟨⟨Hs, Ht⟩, HsemA, HO⟩
  ihave Hs := (Entails.of_eq (congrArg (fun f => tokPts (F := F) d L f) (copied_in (F := F) L fs v))) $$ Hs
  -- the zeroing, the groups
  iapply (wp_zero d L fc _ _) $$ Hc; iintro Hc
  iapply (wp_group d L _ hs 0 (by omega) _ _ _) $$ [Hs Hc]
  · isplitl [Hs] <;> iassumption
  iintro H
  iapply (wp_group d L _ hs 1 (by omega) _ _ _) $$ H
  iintro ⟨Hs, Hc⟩
  unfold epilogue twp
  -- the copy out
  ihave Hc := (Entails.of_eq (pts_sC (F := F) d L _).symm) $$ Hc
  iapply (Transfers.wp_dmaLocal EC 𝒱₀ (V d (cV L) (jV L)) none (src := (sC : Memref sig .scVector .vmem S33792 .f32)) (dst := oK L) (q := fullShare) (fs := tileVal (F := F) (slab v (wid L))) (fd := o) (Sd := cntSet (wid L))
    (none : HIx 1) (oK L).view.dmaCredit rfl (View.dmaCredit_pos _ (by decide)) (Finset.Subset.antisymm_iff.mp (set_oK L)).1) $$ [Hc Ho HsemB]
  · isplitl [Hc]; · iexact Hc
    isplitl [Ho]; · iexact Ho
    iexact HsemB
  iintro Hfl
  iapply (Transfers.wp_waitLocalO EC 𝒱₀ (V d (cV L) (jV L)) none (none : HIx 1) rfl) $$ [Hfl HO]
  · isplitl [Hfl]; · iexact Hfl
    isplitl [HO]; · iexact HO
    iapply ((K (F := F)).mayWait_none (SemLoc.dma cc0_scoped1.sem) hO); iexact Hlv
  iintro ⟨⟨Ho, Hc⟩, HsemB, HO⟩
  ihave Ho := (Entails.of_eq (pointsTo_congr (copied_out (F := F) L o v))) $$ Ho
  ihave Hc := (Entails.of_eq (pts_sC (F := F) d L _)) $$ Hc
  ihave Ht := (Entails.of_eq (pts_tK (F := F) d L v)) $$ Ht
  rw [wp_ret]; imodintro
  isplitl [Ht Ho]
  · isplitl [Ht]; · iexact Ht
    iexact Ho
  isplitl [Hs Hc Hbufs]
  · isplitl [Hs]
    · iexists _; iexact Hs
    isplitl [Hc]
    · iexists _; iexact Hc
    iexact Hbufs
  isplitl [HsemA HsemB Hsems]
  · isplitl [HsemA]; · iexact HsemA
    isplitl [HsemB]; · iexact HsemB
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    exact .inl hp

end Cert.KernelIdeal.Ngram

end
-- ==== Proof.KernelIdeal.Launch.lean ====
/-
  The launch: the one call is handed the flat tokens and the flat counts array cut into the thirty-two tiles' stretches
  and brings them back, the counts at `outC`; around it @main flattens the input and shapes the counts into the result.
-/
module

public import proofs.«01_k».proof.Proof.KernelIdeal.Tile

@[expose] public section

noncomputable section

namespace Cert.KernelIdeal.Ngram

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}
variable (m : (ℓ : Loc nD τ sig) → Buf (Elt F) ℓ) (ρ : Dev nD → PrngReg)

/-- The input and the result, as locations of device `d`. -/
abbrev aLoc (d : Dev nD) : Loc nD τ sig := (SparseCore.T d).loc main_arg0
abbrev rLoc (d : Dev nD) : Loc nD τ sig := (SparseCore.T d).loc main_v2

/-- The input flattened, and the result the counts make. -/
def flatIn (d : Dev nD) : Flat := fun i => shapeCast S51200 (m (aLoc d) : S1024x50.Idx → BitVec 32) shapeCasts_S1024x50_S51200 i
def resultOf [FloatOps F] (v : Flat) : S1024x1056.Idx → F .f32 := fun i => shapeCast S1024x1056 (outC (F := F) v) shapeCasts_S1081344_S1024x1056 i

/-! ## The stretches make the arrays -/

theorem tok_disjoint : ∀ p ∈ (Finset.univ : Finset (Fin 2 × Fin 16)), ∀ q ∈ (Finset.univ : Finset (Fin 2 × Fin 16)), p ≠ q →
    Disjoint (tokSet (2 * p.2.val + p.1.val)) (tokSet (2 * q.2.val + q.1.val)) := by
  intro p _ q _ hpq
  refine Finset.disjoint_left.mpr fun j h1 h2 => hpq ?_
  have e1 := (Finset.mem_filter.mp h1).2
  have e2 := (Finset.mem_filter.mp h2).2
  have := p.1.isLt; have := q.1.isLt
  exact Prod.ext (Fin.ext (by omega)) (Fin.ext (by omega))
theorem cnt_disjoint : ∀ p ∈ (Finset.univ : Finset (Fin 2 × Fin 16)), ∀ q ∈ (Finset.univ : Finset (Fin 2 × Fin 16)), p ≠ q →
    Disjoint (cntSet (2 * p.2.val + p.1.val)) (cntSet (2 * q.2.val + q.1.val)) := by
  intro p _ q _ hpq
  refine Finset.disjoint_left.mpr fun j h1 h2 => hpq ?_
  have e1 := (Finset.mem_filter.mp h1).2
  have e2 := (Finset.mem_filter.mp h2).2
  have := p.1.isLt; have := q.1.isLt
  exact Prod.ext (Fin.ext (by omega)) (Fin.ext (by omega))
theorem tok_cover : (Finset.univ : Finset (Fin 2 × Fin 16)).biUnion (fun p => tokSet (2 * p.2.val + p.1.val)) = Finset.univ := by
  ext j
  have hj : (j 0).val < 51200 := (j 0).isLt
  refine ⟨fun _ => Finset.mem_univ _, fun _ => Finset.mem_biUnion.mpr
    ⟨(⟨(j 0).val / 1600 % 2, by omega⟩, ⟨(j 0).val / 1600 / 2, by omega⟩), Finset.mem_univ _, Finset.mem_filter.mpr ⟨Finset.mem_univ _, ?_⟩⟩⟩
  show (j 0).val / 1600 = 2 * ((j 0).val / 1600 / 2) + (j 0).val / 1600 % 2
  omega
theorem cnt_cover : (Finset.univ : Finset (Fin 2 × Fin 16)).biUnion (fun p => cntSet (2 * p.2.val + p.1.val)) = Finset.univ := by
  ext j
  have hj : (j 0).val < 1081344 := (j 0).isLt
  refine ⟨fun _ => Finset.mem_univ _, fun _ => Finset.mem_biUnion.mpr
    ⟨(⟨(j 0).val / 33792 % 2, by omega⟩, ⟨(j 0).val / 33792 / 2, by omega⟩), Finset.mem_univ _, Finset.mem_filter.mpr ⟨Finset.mem_univ _, ?_⟩⟩⟩
  show (j 0).val / 33792 = 2 * ((j 0).val / 33792 / 2) + (j 0).val / 33792 % 2
  omega

/-- The stretches of the tokens and of the counts at tile `(c, i)`. -/
abbrev both (d : Dev nD) (v : Flat) (o : FlatOut F) (c i : Nat) : sProp (MM F) := iprop(tPart d (2 * i + c) v ∗ oPart d (2 * i + c) o)

/-- The two arrays whole are the tiles' stretches of them. -/
theorem arrays_tiles (d : Dev nD) (v : Flat) (o : FlatOut F) :
    (iprop((tLoc d ↦{fullShare} v) ∗ (oLoc d ↦{fullShare} o)) : sProp (MM F))
      = bigSep Finset.univ fun c : Fin 2 => bigSep Finset.univ fun i : Fin 16 => both d v o c.val i.val := by
  rw [← bigSep_univ_prod (fun p : Fin 2 × Fin 16 => both (F := F) d v o p.1.val p.2.val), bigSep_sep',
    ← pointsTo_biUnion Finset.univ (ℓ := tLoc d) (fun p : Fin 2 × Fin 16 => tokSet (2 * p.2.val + p.1.val)) tok_disjoint,
    ← pointsTo_biUnion Finset.univ (ℓ := oLoc d) (fun p : Fin 2 × Fin 16 => cntSet (2 * p.2.val + p.1.val)) cnt_disjoint, tok_cover, cnt_cover]

variable [FloatOps F]

/-! ## What the handshakes carry -/

/-- A SparseCore is handed its sixteen tiles' stretches, a tile its own; they come back with the counts at `outC`. -/
def P : (K (F := F)).Pay (nD := nD) (Val := Elt F) (Name := ℕ) (U := UU) where
  st := fun q d c => match q with | 0 => bigSep Finset.univ fun i : Fin 16 => both d (flatIn m d) (m (oLoc d)) c.val i.val
  dn := fun q d c => match q with | 0 => bigSep Finset.univ fun i : Fin 16 => both d (flatIn m d) (outC (flatIn m d)) c.val i.val
  go := fun q d c i => match q with | 0 => both d (flatIn m d) (m (oLoc d)) c.val i.val
  td := fun q d c i => match q with | 0 => both d (flatIn m d) (outC (flatIn m d)) c.val i.val
  x := fun _ _ => iprop(emp)

instance P_storable : (P (F := F) m).IsStorable where
  st q d c := match q with
    | 0 => (inferInstance : BI.Storable (upEmb : UEmb _ (MM F)) (bigSep Finset.univ fun i : Fin 16 => both d (flatIn m d) (m (oLoc d)) c.val i.val))
  dn q d c := match q with
    | 0 => (inferInstance : BI.Storable (upEmb : UEmb _ (MM F)) (bigSep Finset.univ fun i : Fin 16 => both d (flatIn m d) (outC (flatIn m d)) c.val i.val))
  go q d c i := match q with
    | 0 => (inferInstance : BI.Storable (upEmb : UEmb _ (MM F)) (both d (flatIn m d) (m (oLoc d)) c.val i.val))
  td q d c i := match q with
    | 0 => (inferInstance : BI.Storable (upEmb : UEmb _ (MM F)) (both d (flatIn m d) (outC (flatIn m d)) c.val i.val))

theorem vecSplit : (K (F := F)).VecSplit' (P m) 0 := by
  intro d c
  show (bigSep Finset.univ fun i : Fin 16 => both d (flatIn m d) (m (oLoc d)) c.val i.val) ⊢ |={Set.univ}=> iprop(
    (bigSep Finset.univ fun i : Fin 16 => both d (flatIn m d) (m (oLoc d)) c.val i.val)
      ∗ ((bigSep Finset.univ fun i : Fin 16 => both d (flatIn m d) (outC (flatIn m d)) c.val i.val)
          -∗ (bigSep Finset.univ fun i : Fin 16 => both d (flatIn m d) (outC (flatIn m d)) c.val i.val)))
  iintro H; imodintro
  isplitl [H]; · iexact H
  iintro H; iexact H

/-- What the proof asks of the launch memory: the input's words are below 32. -/
def Below : Prop := ∀ (d : Dev nD) (j : S1024x50.Idx), ((m (aLoc d) : S1024x50.Idx → BitVec 32) j).toNat < 32

theorem flatIn_below {m : (ℓ : Loc nD τ sig) → Buf (Elt F) ℓ} (h : Below m) (d : Dev nD) : ∀ j, (flatIn m d j).toNat < 32 := fun _ => h d _

/-- A grid point from its coordinates. -/
def pt (c : Fin (grid0.bound 0)) (s : Fin (grid0.bound 1)) : grid0.Coords :=
  fun | 0 => c | 1 => s | ⟨_ + 2, h⟩ => absurd h (Nat.not_lt.2 (Nat.le_add_left _ _))

theorem bodyTable (c : Fin τ.nSC) (s : Fin τ.nSub) :
    defs₀ (F := F) (.scVector c s) 0 ()
      = SparseCore.onTile hcore0 hsub0 (fun c s => cc0__ngram_counts_sc (pt c s) tV (Memref.isWhole_whole _) oV (Memref.isWhole_whole _)
          sT (Memref.isWhole_whole _) sC (Memref.isWhole_whole _) cc0_scoped0 cc0_scoped1) ⟨⟩ c s := rfl

/-- The launch's form of a tile's closing resources. -/
theorem post_weaken {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 2048 in
theorem tileObl (h : Below m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [bodyTable]; simp only [SparseCore.onTile, hc, and_self, ↓reduceDIte]
  exact (tile_body d (pt ⟨_, hc.1⟩ ⟨_, hc.2⟩) (flatIn m d) (flatIn_below h d) (m (oLoc d)) O W hO).trans (wp_mono frame _ _ fun _ => post_weaken)

/-! ## The launch element -/

def u₀ : UU := (initOf (K (F := F)).hsCells (K (F := F)).hsToks, 1)

omit [FloatOps F] in
/-- The handshakes' part of a launch element. -/
theorem launch_own (a : UH) : (ownU ((a, 1) : UU) : sProp (MM F)) ⊢ iprop(BI.own (EH a) ∗ BI.own (uEmb (nD := nD) (sig := sig) (Ix := HIx 1) (Val := Elt F) (Name := ℕ) (U := UU) (Lvl := ℕ) ((1, 1) : UU))) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (1 : Counters))))

omit [FloatOps F] in
/-- Nothing, any number of times, is nothing. -/
theorem emps {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (launch_own (F := F) (initOf (K (F := F)).hsCells (K (F := F)).hsToks)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## @main on the TensorCore -/

abbrev a' : DevRef τ sig := Proc.devRef .tc (main_arg0 : Ref sig .tc)
abbrev t' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two host operations: the input flattened, the counts shaped into the result. -/
abbrev opIn : HloOp τ sig (Elt F) := StableHlo.reshape main_arg0 main_v0 (rfl : (.i32 : EltTy) = .i32) shapeCasts_S1024x50_S51200
abbrev opOut : HloOp τ sig (Elt F) := StableHlo.reshape main_v1 main_v2 (rfl : (.f32 : EltTy) = .f32) shapeCasts_S1081344_S1024x1056

omit [FloatOps F] in
theorem buffers_eq (d : Dev nD) (W : (b : Ref sig .tc) → Buf (Elt F) ((d.tc : Thread nD τ).loc b)) :
    (unscopedBufs d W : sProp (MM F)) = iprop((aLoc d ↦{fullShare} W main_arg0) ∗ (tLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

omit [FloatOps F] in
theorem held_in (d : Dev nD) (W : Valuation τ sig (Elt F)) :
    (held (T d) {a', t'} W : sProp (MM F)) = iprop((aLoc d ↦{fullShare} W a') ∗ tLoc d ↦{fullShare} W t') := by
  unfold held
  rw [SparseCore.bigSep_insert' (by decide), bigSep_singleton]
omit [FloatOps F] in
theorem held_out (d : Dev nD) (W : Valuation τ sig (Elt F)) :
    (held (T d) {o', r'} W : sProp (MM F)) = iprop((oLoc d ↦{fullShare} W o') ∗ rLoc d ↦{fullShare} W r') := by
  unfold held
  rw [SparseCore.bigSep_insert' (by decide), bigSep_singleton]

/-- The arrays at the launch, and after the call. -/
def V0 (d : Dev nD) : Valuation τ sig (Elt F) := fun b => m (d, b)
def V1 (d : Dev nD) : Valuation τ sig (Elt F) := Function.update (V0 m d) o' (outC (F := F) (flatIn m d))

omit [FloatOps F] in
theorem in_a (d : Dev nD) : (opIn (F := F)).result (V0 m d) a' = m (aLoc d) :=
  ((opIn (F := F)).result_of_not_mem _ (show a' ∉ ({t'} : Finset (DevRef τ sig)) by decide))
omit [FloatOps F] in
theorem in_t (d : Dev nD) : (opIn (F := F)).result (V0 m d) t' = flatIn m d := StableHlo.reshape_result _ _ _ _ _ _ _
theorem out_o (d : Dev nD) : V1 m d o' = outC (F := F) (flatIn m d) := Function.update_self _ _ _
theorem out_r (d : Dev nD) : (opOut (F := F)).result (V1 m d) r' = resultOf (F := F) (flatIn m d) :=
  (StableHlo.reshape_result _ _ _ _ _ _ _).trans (by rw [out_o]; rfl)

/-- What @main leaves the claims: the input as it was, the result at the counts. -/
abbrev FIN (d : Dev nD) : sProp (MM F) := iprop((aLoc d ↦{fullShare} m (aLoc d)) ∗ rLoc d ↦{fullShare} resultOf (F := F) (flatIn m d))

theorem st_eq (d : Dev nD) : (bigSep Finset.univ fun c : Fin ((K (F := F)).nCore 0) => (P m).st 0 d c)
    = iprop((tLoc d ↦{fullShare} flatIn m d) ∗ (oLoc d ↦{fullShare} m (oLoc d))) := (arrays_tiles d _ _).symm
theorem dn_eq (d : Dev nD) : (bigSep Finset.univ fun c : Fin ((K (F := F)).nCore 0) => (P m).dn 0 d c)
    = iprop((tLoc d ↦{fullShare} flatIn m d) ∗ (oLoc d ↦{fullShare} outC (F := F) (flatIn m d))) := (arrays_tiles d _ _).symm

/-- @main on device `d`: the input flattened, the call, the counts shaped into the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [buffers_eq]
  simp only [main, wp_bind, wp_pure]
  iintro ⟨#Hctx, Hst, ⟨Hb, ⟨Ha, Ht, Ho, Hr⟩, Hts, -⟩, -⟩
  iapply (wp_hlo_within 𝒱 (SparseCore.T d) none Set.univ (op := opIn) (S := {a', t'}) (Finset.Subset.refl _) (V := V0 m d)) $$ [Hb Ha Ht]
  · isplitl [Hb]; · iexact Hb
    rw [held_in]
    isplitl [Ha]; · iexact Ha
    iexact Ht
  iintro ⟨Hb, Hh⟩
  ihave Hh := (Entails.of_eq (held_in (F := F) d _)) $$ Hh
  rw [in_a, in_t]
  icases Hh with ⟨Ha, Ht⟩
  rw [wp_ret]; imodintro
  iapply ((K (F := F)).wp_run (D (F := F)) 𝒱 (EH := EH) (P := P m) κ d 0) $$ [Hst Ha Ht Ho Hb Hr Hts]
  isplitr; · iexact Hctx
  isplitl [Hst]; · iexact Hst
  isplitl [Ht Ho]
  · rw [st_eq]
    isplitl [Ht]; · iexact Ht
    iexact Ho
  iintro ⟨Hst, Hdn⟩
  ihave Hdn := (Entails.of_eq (dn_eq m d)) $$ Hdn
  icases Hdn with ⟨Ht, Ho⟩
  iapply (wp_hlo_within 𝒱 (SparseCore.T d) none Set.univ (op := opOut) (S := {o', r'}) (Finset.Subset.refl _) (V := V1 m d)) $$ [Hb Ho Hr]
  · isplitl [Hb]; · iexact Hb
    rw [held_out, out_o]
    isplitl [Ho]; · iexact Ho
    iexact Hr
  iintro ⟨Hb, Hh⟩
  ihave Hh := (Entails.of_eq (held_out (F := F) d _)) $$ Hh
  rw [out_r]
  icases Hh with ⟨-, Hr⟩
  rw [wp_ret]; imodintro; imodintro
  isplitl [Hst]; · iexact Hst
  isplitr [Hb Hts]
  · isplitl [Ha]; · iexact Ha
    iexact Hr
  isplitl [Hb] <;> iassumption

/-- What the claims read of device `d`'s final state. -/
def fq (d : Dev nD) (s' : Phys nD τ sig (Elt F)) : Prop :=
  s'.mem.mem (rLoc d) = resultOf (F := F) (flatIn m d) ∧ s'.mem.mem (aLoc d) = m (aLoc d)

theorem hfin (d : Dev nD) (s' : Phys nD τ sig (Elt F)) : iprop(FIN m d ∗ SI s') ⊢ (⌜fq m d s'⌝ : sProp (MM F)) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := resultOf (F := F) (flatIn m d))) $$ [HSI Hr]
  · isplitl [HSI] <;> iassumption
  icases H with %h2
  ipureintro; exact ⟨funext fun i => h2 i (Finset.mem_univ i), funext fun i => h1 i (Finset.mem_univ i)⟩

/-- What a run ends in: on every device the result at the counts of the input's tokens, the input as it was, and no
    semaphore left raised. -/
def QC : PUnit × MemSt nD τ sig (Elt F) → Prop := fun r =>
  (∀ c : Dev nD, r.2.mem (rLoc c) = resultOf (F := F) (flatIn m c) ∧ r.2.mem (aLoc c) = m (aLoc c)) ∧ r.2.sem = fun _ => 0

/-- From a memory whose input words are below 32, every run of the program ends so. -/
theorem run_main [∀ e, Nonempty (Elt F e)] (h : Below m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) cfgFacts v₀
    (fun q hq => match q with | 0 => nomatch hq)
    (fun q _ => match q with | 0 => tileObl m h)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Ngram

end
-- ==== Proof.KernelIdeal.Pre.lean ====
/-
  From the claims' precondition to what the runs ask: a precondition that holds says of every word of the input that it
  is between 0 and 31, so the word, read without its sign, is below 32.
-/
module

public import proofs.«01_k».proof.Proof.KernelIdeal.Launch
public import proofs.«01_k».proof.Proof.Gen.Pre_tokens
public import Idealize.ShloMosaic.Lib.ReduceAll

@[expose] public section

noncomputable section

namespace Cert.KernelIdeal.Ngram

open Cert.KernelIdeal Cert.KernelIdeal.Gen
open Idealize.ShloMosaic

/-- A word that is at least 0 and less than 32, compared as signed words, is below 32 without its sign. -/
theorem word_below (w : BitVec 32) (h : IntOp.andi (IntOp.cmpi .sge w 0#32) (IntOp.cmpi .slt w 32#32) = 1#1) : w.toNat < 32 := by
  obtain ⟨h0, h1⟩ := IntOp.andi_eq_one.1 h
  have bit (b : Bool) (e : BitVec.ofBool b = 1#1) : b = true := by revert e; cases b <;> decide
  have a0 := bit _ h0
  have a1 := bit _ h1
  simp only [BitVec.sle_eq_decide, BitVec.slt_eq_decide, decide_eq_true_eq, BitVec.toInt_eq_toNat_cond, BitVec.toNat_ofNat,
    Nat.reducePow, Nat.reduceMod] at a0 a1
  omega

/-- An input the precondition holds of has every word below 32. -/
theorem below_of_fn {F : FTy → Type} [FloatOps F] (x : S1024x50.Idx → BitVec 32) (h : Cert.Pre_tokens.fn (F := F) x = fun _ => 1#1)
    (j : S1024x50.Idx) : (x j).toNat < 32 := by
  have e := congrFun h (fun a => a.elim0)
  haveI : Subsingleton Cert.Pre_tokens.S_.Idx := ⟨fun a b => funext fun (k : Fin 0) => k.elim0⟩
  exact word_below _ (Host.reduce_andi_all _ _ _ _ _ e j)

end Cert.KernelIdeal.Ngram

end
-- ==== Proof.Frames.lean ====
/-
  The frames. The idealized program's text is the program's own, so one run theorem, which leaves the float values open,
  serves both: read at `Ideal` it is the idealized program's, read at `Bits` the program's.
-/
module

public import proofs.«01_k».proof.Defs
public import proofs.«01_k».proof.Proof.KernelIdeal.Pre
public import proofs.«01_k».proof.Proof.Gen.Kernel
public import proofs.«01_k».proof.Proof.Gen.Kernel.Skeleton
public import proofs.«01_k».proof.Proof.Gen.ReferenceIdeal.Run

@[expose] public section

noncomputable section

namespace Cert.Proof

open Idealize.ShloMosaic Idealize.SL.Sem
open Cert.KernelIdeal.Ngram (Below below_of_fn)

/-- The idealized program ends, faultless, its input as it was and no semaphore left raised. -/
theorem frame_kernelIdeal : Cert.quiescent_KernelIdeal := fun m ρ h =>
  (θ_run Cert.KernelIdeal.defs _ _).mono (fun _ e => ⟨fun c => (e.1 c).2, e.2⟩)
    (Cert.KernelIdeal.Ngram.run_main (F := Ideal) m ρ fun d j => below_of_fn (F := Ideal) _ (h d) j)

/-- So does the program. -/
theorem frame_kernel : Cert.quiescent_Kernel := fun m ρ h =>
  (θ_run Cert.Kernel.defs _ _).mono (fun _ e => ⟨fun c => (e.1 c).2, e.2⟩)
    (Cert.KernelIdeal.Ngram.run_main (F := Bits) m ρ fun d j => below_of_fn (F := Bits) _ (h d) j)

/-- So does the reference, from any memory. -/
theorem frame_reference : Cert.quiescent_ReferenceIdeal := fun m ρ _ =>
  (θ_run Cert.ReferenceIdeal.defs _ _).mono
    (fun r e => ⟨fun c => (e c).2, sem_eq_zero_of_no_sems (by decide) r.2⟩)
    (Cert.ReferenceIdeal.Value.run (F := Ideal) m ρ)

end Cert.Proof

end
-- ==== Proof.KernelIdeal.Counts.lean ====
/-
  What a tile's counts are, at exact values: bin `b` of row `r` counts the row's tokens equal to `b` (below 32) or its
  pairs of neighbouring tokens whose number `32 a + a'` is `b - 32` (from 32 on).
-/
module

public import proofs.«01_k».proof.Proof.KernelIdeal.Values
public import Idealize.ShloMosaic.Lib.Pointwise

@[expose] public section

noncomputable section

namespace Cert.KernelIdeal.Ngram

open Cert.KernelIdeal Cert.KernelIdeal.Gen
open Idealize.ShloMosaic

/-- One where `p` holds, zero elsewhere. -/
def ind (p : Prop) [Decidable p] : EReal := if p then 1 else 0

/-- A fold whose step adds one wherever a lane's place is `j`: what stood there, and one for each such lane. -/
theorem fold_hits {ι β : Type} (hit : ι → β → Prop) [∀ k j, Decidable (hit k j)] (step : (β → EReal) → ι → β → EReal)
    (hs : ∀ g k j, step g k j = if hit k j then g j + 1 else g j) (j : β) : ∀ (l : List ι) (f : β → EReal),
      l.foldl step f j = f j + (l.map fun k => ind (hit k j)).sum
  | [], f => by simp
  | k :: l, f => by
    rw [List.foldl_cons, fold_hits hit step hs j l, List.map_cons, List.sum_cons, ← add_assoc, hs]
    congr 1
    by_cases h : hit k j <;> simp [ind, h]

/-- Scattering ones adds to each place the number of lanes that name it. -/
theorem scat_ones (v : IVec S16 32) (h : CntIn v) (c : Cnts Ideal) (j : S33792.Idx) :
    scat (F := Ideal) v ones c j = (c j + ∑ k : Fin 16, ind ((v (Shape.ofLane (d := ![16]) k)).toNat = (j 0).val) : EReal) := by
  have h1 (x : S16.Idx) : (ones (F := Ideal) x : EReal) = 1 := Ideal.ofBits_one_f32
  unfold scat
  rw [dif_pos h]
  unfold storeIdx
  refine (fold_hits (fun (k : Fin 16) (j : S33792.Idx) => (v (Shape.ofLane (d := ![16]) k)).toNat = (j 0).val) _ ?_ j _ c).trans ?_
  · intro g k j
    have e : (∀ a, (j a).val = (idxAt (s := S33792) ![v] h (Shape.ofLane (d := ![16]) k) a).val) ↔ (v (Shape.ofLane (d := ![16]) k)).toNat = (j 0).val :=
      ⟨fun e => (e 0).symm, fun e (a : Fin 1) => by obtain rfl : a = 0 := Subsingleton.elim _ _; exact e.symm⟩
    by_cases hk : (v (Shape.ofLane (d := ![16]) k)).toNat = (j 0).val
    · have e' := e.2 hk
      have ej : idxAt (s := S33792) ![v] h (Shape.ofLane (d := ![16]) k) = j := funext fun a => Fin.ext (e' a).symm
      rw [if_pos hk, ← ej]
      refine (if_pos fun a => rfl).trans ?_
      show (_ + ones (F := Ideal) _ : EReal) = _
      rw [h1]
    · rw [if_neg hk]
      exact if_neg fun e' => hk (e.1 e')
  · rw [Fin.sum_univ_def]; rfl

/-- Token `n` of a scratch, as a number. -/
def tokNat (s : Toks) (n : Nat) : Nat := if h : n < 1600 then (s (Shape.ofLane (d := ![1600]) ⟨n, h⟩)).toNat else 0

theorem tokNat_lt (s : Toks) (hs : Small s) (n : Nat) : tokNat s n < 32 := by
  unfold tokNat
  split
  · exact hs _
  · decide

/-- Lane `x` of the vector of the tokens `k` is the token `k` of row `16 g + x`. -/
theorem ga_tok (s : Toks) (g : Nat) (hg : g < 2) (k : Nat) (hk : k < 50) (x : S16.Idx) :
    (ga s (addi (tokBase g) (broadcast S16 (BitVec.ofNat 32 k))) x).toNat = tokNat s (50 * (16 * g + (x 0).val) + k) := by
  have hx : (x 0).val < 16 := (x 0).isLt
  unfold ga tokNat
  rw [dif_pos (tokIn_of g hg k hk), dif_pos (by omega : 50 * (16 * g + (x 0).val) + k < 1600)]
  congr 2
  funext (a : Fin 1)
  obtain rfl : a = 0 := Subsingleton.elim _ _
  refine Fin.ext ?_
  refine (tokAt_toNat g hg k hk x).trans ?_
  show _ = 50 * (16 * g + (x 0).val) + k
  omega

/-- Of sixteen neighbouring rows, each naming one bin of its own, at most one names bin `b` of row `r`. -/
theorem row_sum (g r b : Nat) (B : Nat → Nat) (hB : ∀ n, B n < 1056) (hb : b < 1056) :
    ∑ k : Fin 16, ind ((16 * g + k.val) * 1056 + B (16 * g + k.val) = 1056 * r + b) = if r / 16 = g then ind (B r = b) else 0 := by
  split
  · rename_i h
    have e : 16 * g + r % 16 = r := by omega
    rw [Finset.sum_eq_single (⟨r % 16, Nat.mod_lt _ (by decide)⟩ : Fin 16)]
    · show ind ((16 * g + r % 16) * 1056 + B (16 * g + r % 16) = 1056 * r + b) = _
      rw [e]
      unfold ind
      congr 1
      exact propext ⟨fun h => by omega, fun h => by omega⟩
    · intro k _ hk
      refine if_neg fun h' => hk (Fin.ext ?_)
      have := hB (16 * g + k.val)
      have := k.isLt
      show k.val = r % 16
      omega
    · exact fun h => absurd (Finset.mem_univ _) h
  · rename_i h
    refine Finset.sum_eq_zero fun k _ => if_neg fun h' => h ?_
    have := hB (16 * g + k.val)
    have := k.isLt
    omega

/-- Scattering ones at one bin of each row of group `g` adds one to bin `b` of row `r` when that is the row's bin. -/
theorem scat_row (g : Nat) (hg : g < 2) (B : Nat → Nat) (hB : ∀ n, B n < 1056) (v : IVec S16 32)
    (hv : ∀ x, (v x).toNat = (16 * g + (x 0).val) * 1056 + B (16 * g + (x 0).val)) (c : Cnts Ideal) (j : S33792.Idx) (r b : Nat)
    (hb : b < 1056) (hj : (j 0).val = 1056 * r + b) :
    scat (F := Ideal) v ones c j = (c j + if r / 16 = g then ind (B r = b) else 0 : EReal) := by
  have h : CntIn v := by
    intro a x
    obtain rfl : a = 0 := Subsingleton.elim _ _
    have hx : (x 0).val < 16 := (x 0).isLt
    have := hB (16 * g + (x 0).val)
    show (v x).toNat < 33792
    rw [hv]; omega
  rw [scat_ones v h, ← row_sum g r b B hB hb]
  congr 1
  refine Finset.sum_congr rfl fun k _ => ?_
  rw [hv, hj]
  rfl

/-- What block `p` adds to bin `b` of row `r`. -/
def gain (s : Toks) (r b p : Nat) : EReal :=
  ind (tokNat s (50 * r + 2 * p) = b) + ind (tokNat s (50 * r + (2 * p + 1)) = b)
    + ind (32 + 32 * tokNat s (50 * r + 2 * p) + tokNat s (50 * r + (2 * p + 1)) = b)

/-- A block adds its gain to the rows of its group. -/
theorem blockVal_at (s : Toks) (hs : Small s) (g : Nat) (hg : g < 2) (p : Nat) (hp : p < 25) (c : Cnts Ideal) (j : S33792.Idx)
    (r b : Nat) (hb : b < 1056) (hj : (j 0).val = 1056 * r + b) :
    blockVal s (tokBase g) (cntBase g) (bigBase g) p c j = (c j + if r / 16 = g then gain s r b p else 0 : EReal) := by
  have ha (x) : (fstTok s (tokBase g) p x).toNat = tokNat s (50 * (16 * g + (x 0).val) + 2 * p) := ga_tok s g hg _ (by omega) x
  have hc (x) : (sndTok s (tokBase g) p x).toNat = tokNat s (50 * (16 * g + (x 0).val) + (2 * p + 1)) := ga_tok s g hg _ (by omega) x
  have ha' (x) : (fstTok s (tokBase g) p x).toNat < 32 := ga_small s hs _ x
  have hc' (x) : (sndTok s (tokBase g) p x).toNat < 32 := ga_small s hs _ x
  have ht := tokNat_lt s hs
  unfold blockVal
  rw [scat_row g hg (fun n => 32 + 32 * tokNat s (50 * n + 2 * p) + tokNat s (50 * n + (2 * p + 1)))
      (fun n => by have := ht (50 * n + 2 * p); have := ht (50 * n + (2 * p + 1)); show 32 + 32 * _ + _ < 1056; omega) _
      (fun x => by refine (biIx_toNat g hg _ _ ha' hc' x).trans ?_; rw [ha, hc]; show _ = _ + (32 + 32 * _ + _); omega) _ j r b hb hj,
    scat_row g hg (fun n => tokNat s (50 * n + (2 * p + 1))) (fun n => Nat.lt_trans (ht _) (by decide)) _
      (fun x => by rw [uniIx_toNat g hg _ hc', hc]) _ j r b hb hj,
    scat_row g hg (fun n => tokNat s (50 * n + 2 * p)) (fun n => Nat.lt_trans (ht _) (by decide)) _
      (fun x => by rw [uniIx_toNat g hg _ ha', ha]) _ j r b hb hj]
  split
  · simp only [gain, add_assoc]
  · simp only [add_zero]

/-- Blocks add the sum of their gains. -/
theorem blocksVal_at (s : Toks) (hs : Small s) (g : Nat) (hg : g < 2) (j : S33792.Idx) (r b : Nat) (hb : b < 1056)
    (hj : (j 0).val = 1056 * r + b) : ∀ (n p : Nat) (_ : p + n ≤ 25) (c : Cnts Ideal),
      blocksVal s (tokBase g) (cntBase g) (bigBase g) n p c j
        = (c j + if r / 16 = g then ∑ i ∈ Finset.range n, gain s r b (p + i) else 0 : EReal)
  | 0, p, _, c => by simp [blocksVal]
  | n + 1, p, h, c => by
    rw [blocksVal, blocksVal_at s hs g hg j r b hb hj n (p + 1) (by omega), blockVal_at s hs g hg p (by omega) c j r b hb hj]
    split
    · rw [Finset.sum_range_succ', add_assoc, add_comm (gain s r b p)]
      simp only [Nat.add_zero, Nat.add_assoc, Nat.add_comm 1]
    · simp only [add_zero]

/-- Bin `b` of row `r` of a tile holds the gains of the row's twenty-five blocks. -/
theorem tileVal_at (s : Toks) (hs : Small s) (j : S33792.Idx) (r b : Nat) (hr : r < 32) (hb : b < 1056)
    (hj : (j 0).val = 1056 * r + b) : tileVal (F := Ideal) s j = (∑ p ∈ Finset.range 25, gain s r b p : EReal) := by
  have hz : (zeros (F := Ideal) j : EReal) = 0 := Ideal.ofBits_zero_f32
  unfold tileVal groupVal
  rw [blocksVal_at s hs 1 (by decide) j r b hb hj 25 0 (by decide), blocksVal_at s hs 0 (by decide) j r b hb hj 25 0 (by decide), hz]
  simp only [Nat.zero_add, zero_add]
  rcases (by omega : r / 16 = 0 ∨ r / 16 = 1) with h | h <;> simp [h]

/-- A sum over the even and the odd numbers, paired. -/
theorem sum_pairs (f : Nat → EReal) : ∀ n : Nat, ∑ p ∈ Finset.range n, (f (2 * p) + f (2 * p + 1)) = ∑ k ∈ Finset.range (2 * n), f k
  | 0 => by simp
  | n + 1 => by
    rw [Finset.sum_range_succ, sum_pairs f n, show 2 * (n + 1) = 2 * n + 1 + 1 by omega, Finset.sum_range_succ, Finset.sum_range_succ, add_assoc]

/-- A bin below 32 counts the row's tokens equal to it. -/
theorem tileVal_uni (s : Toks) (hs : Small s) (j : S33792.Idx) (r b : Nat) (hr : r < 32) (hb : b < 32)
    (hj : (j 0).val = 1056 * r + b) : tileVal (F := Ideal) s j = (∑ k ∈ Finset.range 50, ind (tokNat s (50 * r + k) = b) : EReal) := by
  rw [tileVal_at s hs j r b hr (by omega) hj, ← sum_pairs (fun k => ind (tokNat s (50 * r + k) = b)) 25]
  refine Finset.sum_congr rfl fun p _ => ?_
  have : ind (32 + 32 * tokNat s (50 * r + 2 * p) + tokNat s (50 * r + (2 * p + 1)) = b) = 0 := if_neg (by omega)
  rw [gain, this, add_zero]

/-- A bin from 32 on counts the row's pairs with that number. -/
theorem tileVal_bi (s : Toks) (hs : Small s) (j : S33792.Idx) (r b : Nat) (hr : r < 32) (hb : b < 1024)
    (hj : (j 0).val = 1056 * r + (32 + b)) : tileVal (F := Ideal) s j
      = (∑ p ∈ Finset.range 25, ind (32 * tokNat s (50 * r + 2 * p) + tokNat s (50 * r + (2 * p + 1)) = b) : EReal) := by
  rw [tileVal_at s hs j r (32 + b) hr (by omega) hj]
  refine Finset.sum_congr rfl fun p _ => ?_
  have h0 : ind (tokNat s (50 * r + 2 * p) = 32 + b) = 0 := if_neg (by have := tokNat_lt s hs (50 * r + 2 * p); omega)
  have h1 : ind (tokNat s (50 * r + (2 * p + 1)) = 32 + b) = 0 := if_neg (by have := tokNat_lt s hs (50 * r + (2 * p + 1)); omega)
  rw [gain, h0, h1, add_zero, zero_add]
  unfold ind
  congr 1
  exact propext ⟨fun h => by omega, fun h => by omega⟩

end Cert.KernelIdeal.Ngram

end
-- ==== Proof.KernelIdeal.Result.lean ====
/-
  The result at an index: bin `b` of batch row `R` counts row `R`'s tokens, or its pairs of tokens.
-/
module

public import proofs.«01_k».proof.Proof.KernelIdeal.Counts
public import proofs.«01_k».proof.Proof.KernelIdeal.Launch
public import Idealize.ShloMosaic.Lib.Pipeline.Value

@[expose] public section

noncomputable section

namespace Cert.KernelIdeal.Ngram

open Cert.KernelIdeal Cert.KernelIdeal.Gen
open Idealize.ShloMosaic

variable (m : (ℓ : Loc nD τ sig) → Buf (Elt Ideal) ℓ) (d : Dev nD)

/-- Token `k` of batch row `R`, as a number. -/
def tok (R : Fin 1024) (k : Fin 50) : Nat := BitVec.toNat ((m (aLoc d) : S1024x50.Idx → BitVec 32) (ix2 R k))

/-- Token `k` of row `R % 32` of tile `R / 32` is token `k` of batch row `R`. -/
theorem slab_tok (R : Fin 1024) (k : Fin 50) :
    tokNat (slab (flatIn m d) (R.val / 32)) (50 * (R.val % 32) + k.val) = tok m d R k := by
  have hR := R.isLt
  have hk := k.isLt
  unfold tokNat slab tok flatIn
  rw [dif_pos (by omega : 50 * (R.val % 32) + k.val < 1600)]
  have e : 1600 * (R.val / 32) + (50 * (R.val % 32) + k.val) = 50 * R.val + k.val := by omega
  refine (congrArg BitVec.toNat (dif_pos (show 1600 * (R.val / 32) + (50 * (R.val % 32) + k.val) < 51200 by omega))).trans ?_
  congr 1
  refine shapeCast_apply _ _ _ (ix2 R k) ?_
  rw [Shape.rowMajor_val_one, Shape.rowMajor_val_two]
  show R.val * 50 + k.val = 1600 * (R.val / 32) + (50 * (R.val % 32) + k.val)
  omega

/-- The result at row `R` and bin `b` is that bin of row `R % 32` of tile `R / 32`. -/
theorem resultOf_at (v : Flat) (R : Fin 1024) (b : Fin 1056) : ∃ x : S33792.Idx, (x 0).val = 1056 * (R.val % 32) + b.val
    ∧ resultOf (F := Ideal) v (ix2 R b) = tileVal (F := Ideal) (slab v (R.val / 32)) x := by
  have hR := R.isLt
  have hb := b.isLt
  refine ⟨Shape.ofLane (d := ![33792]) ⟨1056 * (R.val % 32) + b.val, show _ < 33792 by omega⟩, rfl, ?_⟩
  unfold resultOf
  rw [shapeCast_apply _ _ _ (Shape.ofLane (d := ![1081344]) ⟨1056 * R.val + b.val, show _ < 1081344 by omega⟩ : S1081344.Idx)]
  · refine outC_at v _ _ _ ?_
    show 1056 * R.val + b.val = 33792 * (R.val / 32) + (1056 * (R.val % 32) + b.val)
    omega
  · rw [Shape.rowMajor_val_one, Shape.rowMajor_val_two]
    show 1056 * R.val + b.val = R.val * 1056 + b.val
    omega

/-- From tokens below 32, bin `b` below 32 of row `R` counts the row's tokens equal to `b`. -/
theorem result_uni (h : Below m) (R : Fin 1024) (b : Fin 1056) (hb : b.val < 32) :
    resultOf (F := Ideal) (flatIn m d) (ix2 R b) = (∑ k : Fin 50, ind (tok m d R k = b.val) : EReal) := by
  obtain ⟨x, hx, e⟩ := resultOf_at (flatIn m d) R b
  rw [e, tileVal_uni _ (slab_small (flatIn_below h d) _) x _ _ (Nat.mod_lt _ (by decide)) hb hx, Finset.sum_range]
  exact Finset.sum_congr rfl fun k _ => by rw [slab_tok]

/-- And bin `32 + b` counts the row's pairs of tokens whose number is `b`. -/
theorem result_bi (h : Below m) (R : Fin 1024) (b : Fin 1056) (hb : 32 ≤ b.val) :
    resultOf (F := Ideal) (flatIn m d) (ix2 R b)
      = (∑ p : Fin 25, ind (32 * tok m d R ⟨p.val * 2 + 0, by omega⟩ + tok m d R ⟨p.val * 2 + 1, by omega⟩ = b.val - 32) : EReal) := by
  obtain ⟨x, hx, e⟩ := resultOf_at (flatIn m d) R b
  rw [e, tileVal_bi _ (slab_small (flatIn_below h d) _) x (R.val % 32) (b.val - 32) (Nat.mod_lt _ (by decide)) (by omega) (by omega), Finset.sum_range]
  refine Finset.sum_congr rfl fun p _ => ?_
  rw [Nat.mul_comm 2 p.val, ← slab_tok, ← slab_tok]
  rfl

end Cert.KernelIdeal.Ngram

end
-- ==== Proof.Reference.lean ====
/-
  The reference at an index: its two tables of n-grams, the test that a stretch of tokens is an n-gram, and the counts
  the result holds.
-/
module

public import proofs.«01_k».proof.Proof.Gen.ReferenceIdeal.Run
public import proofs.«01_k».proof.Proof.KernelIdeal.Counts
public import Idealize.ShloMosaic.Lib.Pointwise
public import Idealize.ShloMosaic.Lib.IndicatorCount

@[expose] public section

noncomputable section

namespace Cert.Proof

open Idealize.ShloMosaic
open Cert.KernelIdeal.Ngram (ind)

/-- The table of single tokens holds `b` at row `b`. -/
theorem table_one : ∀ b : Fin 32, Cert.ReferenceIdeal.lit0 b = BitVec.ofNat 32 b.val := by decide +kernel

/-- The table of pairs holds the number `b`'s two digits to the base 32 at row `b`. -/
theorem table_two : ∀ b : Fin 1024, Cert.ReferenceIdeal.lit1 ⟨2 * b.val, by omega⟩ = BitVec.ofNat 32 (b.val / 32)
    ∧ Cert.ReferenceIdeal.lit1 ⟨2 * b.val + 1, by omega⟩ = BitVec.ofNat 32 (b.val % 32) := by decide +kernel

/-- Counting the places where two stretches agree and asking whether the count is the stretch's length: one when they
    are equal, zero otherwise. -/
theorem all_agree (n : Nat) (hn : n < 2 ^ 32) (w l : Fin n → BitVec 32) :
    (FloatOps.uitofp (F := Ideal) .f32 (IntOp.cmpi .eq (Finset.univ.fold IntOp.addi 0#32 fun x => BitVec.setWidth 32 (IntOp.cmpi .eq (w x) (l x)))
      (BitVec.ofNat 32 n)) : EReal) = ind (∀ x, w x = l x) := by
  have bit (u v : BitVec 32) : IntOp.cmpi .eq u v = 1#1 ↔ u = v := by
    show BitVec.ofBool (u == v) = 1#1 ↔ _
    rw [Bool.eq_iff_iff.2 (show (u == v) = true ↔ decide (u = v) = true by simp)]
    by_cases h : u = v <;> simp [h]
  rw [IndicatorCount.fold_addi_setWidth_eq_card]
  simp only [bit]
  have hc : (Finset.univ.filter fun x => w x = l x).card ≤ n := (Finset.card_le_univ _).trans (by simp)
  by_cases h : ∀ x, w x = l x
  · have e : (Finset.univ.filter fun x => w x = l x) = Finset.univ := Finset.filter_true_of_mem fun x _ => h x
    rw [e, Finset.card_univ, Fintype.card_fin, (bit _ _).2 rfl]
    unfold ind
    rw [if_pos h]
    show (((1#1).toNat : ℝ) : EReal) = 1
    simp
  · have e : (Finset.univ.filter fun x => w x = l x).card ≠ n := fun e => h fun x => by
      have u : (Finset.univ.filter fun x => w x = l x) = Finset.univ := (Finset.card_eq_iff_eq_univ _).1 (e.trans (Fintype.card_fin n).symm)
      have hx : x ∈ Finset.univ.filter fun x => w x = l x := by rw [u]; exact Finset.mem_univ x
      exact (Finset.mem_filter.1 hx).2
    have z : IntOp.cmpi .eq (BitVec.ofNat 32 (Finset.univ.filter fun x => w x = l x).card) (BitVec.ofNat 32 n) = 0#1 := by
      refine (BitVec.eq_zero_or_eq_one _).resolve_right fun h1 => e ?_
      have := congrArg BitVec.toNat ((bit _ _).1 h1)
      rw [BitVec.toNat_ofNat, BitVec.toNat_ofNat] at this
      omega
    rw [z]
    unfold ind
    rw [if_neg h]
    show (((0#1).toNat : ℝ) : EReal) = 0
    simp

/-- One token is the n-gram of row `b` of the table of single tokens when its number is `b`. -/
theorem is_one (w l : BitVec 32) (b : Fin 32) (hl : l = Cert.ReferenceIdeal.lit0 b) : (∀ _ : Fin 1, w = l) ↔ w.toNat = b.val := by
  have hb := b.isLt
  rw [hl, table_one b]
  refine ⟨fun h => ?_, fun h _ => ?_⟩
  · rw [h 0, BitVec.toNat_ofNat]; omega
  · apply BitVec.eq_of_toNat_eq; rw [BitVec.toNat_ofNat, h]; omega

/-- Two tokens below 32 are the n-gram of row `b` of the table of pairs when their number to the base 32 is `b`. -/
theorem is_two (w l : Fin 2 → BitVec 32) (hw : ∀ x, (w x).toNat < 32) (b : Fin 1024)
    (hl : ∀ x : Fin 2, l x = Cert.ReferenceIdeal.lit1 ⟨2 * b.val + x.val, by omega⟩) :
    (∀ x, w x = l x) ↔ 32 * (w 0).toNat + (w 1).toNat = b.val := by
  have a0 := hw 0
  have a1 := hw 1
  have h0 : l 0 = BitVec.ofNat 32 (b.val / 32) := (hl 0).trans (table_two b).1
  have h1 : l 1 = BitVec.ofNat 32 (b.val % 32) := (hl 1).trans (table_two b).2
  have hb := b.isLt
  refine ⟨fun h => ?_, fun h x => ?_⟩
  · rw [h 0, h 1, h0, h1, BitVec.toNat_ofNat, BitVec.toNat_ofNat]; omega
  · apply BitVec.eq_of_toNat_eq
    have : x = 0 ∨ x = 1 := by omega
    rcases this with rfl | rfl
    · rw [h0, BitVec.toNat_ofNat]; omega
    · rw [h1, BitVec.toNat_ofNat]; omega

open Cert.ReferenceIdeal Cert.ReferenceIdeal.Gen in
/-- The reference's result, of its input. -/
def refOut (x : S1024x50.Idx → BitVec 32) : S1024x1056.Idx → EReal :=
  concatenate S1024x1056 1 [⟨S1024x32,
      (Host.reduceAdd (F := Ideal) (uitofp .f32 (cmpi .eq (Host.reduce IntOp.addi
        (extui 32 (cmpi .eq
          (broadcastInDim S1024x32x50x1 ![0, 1, 2, 3] bcast_S1024x1x50x1_S1024x32x50x1_0_1_2_3 (shapeCast _ x shapeCasts_S1024x50_S1024x1x50x1))
          (broadcastInDim S1024x32x50x1 ![0, 1, 2, 3] bcast_S1x32x1x1_S1024x32x50x1_0_1_2_3 (shapeCast _ ((fun i => lit0 (S32x1.rowMajor i))) shapeCasts_S32x1_S1x32x1x1))) natLt_1_32) (constantI S_ 32 0#32) reducesTo_S1024x32x50x1_S1024x32x50_d3 h_S_)
          (broadcastInDim S1024x32x50 ![] bcast_S_S1024x32x50 (constantI S_ 32 1#32))))
      (constant S_ .f32 0x00000000#32) reducesTo_S1024x32x50_S1024x32_d2 h_S_)⟩,
    ⟨S1024x1024,
      (Host.reduceAdd (F := Ideal) (uitofp .f32 (cmpi .eq (Host.reduce IntOp.addi
        (extui 32 (cmpi .eq
          (broadcastInDim S1024x1024x25x2 ![0, 1, 2, 3] bcast_S1024x1x25x2_S1024x1024x25x2_0_1_2_3 (shapeCast _ x shapeCasts_S1024x50_S1024x1x25x2))
          (broadcastInDim S1024x1024x25x2 ![0, 1, 2, 3] bcast_S1x1024x1x2_S1024x1024x25x2_0_1_2_3 (shapeCast _ ((fun i => lit1 (S1024x2.rowMajor i))) shapeCasts_S1024x2_S1x1024x1x2))) natLt_1_32) (constantI S_ 32 0#32) reducesTo_S1024x1024x25x2_S1024x1024x25_d3 h_S_)
          (broadcastInDim S1024x1024x25 ![] bcast_S_S1024x1024x25 (constantI S_ 32 2#32))))
      (constant S_ .f32 0x00000000#32) reducesTo_S1024x1024x25_S1024x1024_d2 h_S_)⟩] concatenates_S1024x32_S1024x1024_S1024x1056_d1

/-- Bin `b` below 32 of row `R` counts the row's tokens equal to `b`. -/
theorem refOut_uni (x : Cert.ReferenceIdeal.S1024x50.Idx → BitVec 32) (R : Fin 1024) (b : Fin 1056) (hb : b.val < 32) :
    refOut x (ix2 R b) = ∑ k : Fin 50, ind ((x (ix2 R k)).toNat = b.val) := by
  unfold refOut
  pointwise
  rw [dif_pos hb]
  refine Finset.sum_congr rfl fun k _ => ?_
  refine (all_agree 1 (by decide) (fun _ => x (ix2 R k)) fun _ => Cert.ReferenceIdeal.lit0 (Cert.ReferenceIdeal.S32x1.rowMajor (ix2 ⟨b.val, hb⟩ 0))).trans ?_
  unfold ind
  congr 1
  refine propext (is_one _ _ ⟨b.val, hb⟩ (congrArg Cert.ReferenceIdeal.lit0 (Fin.ext ?_)))
  refine (Shape.rowMajor_val_two (d := ![32, 1]) _).trans ?_
  show b.val * 1 + 0 = b.val
  omega

/-- Bin `b` from 32 on of row `R` counts the row's pairs of tokens whose number is `b - 32`. -/
theorem refOut_bi (x : Cert.ReferenceIdeal.S1024x50.Idx → BitVec 32) (hx : ∀ j, (x j).toNat < 32) (R : Fin 1024) (b : Fin 1056)
    (hb : ¬ b.val < 32) : refOut x (ix2 R b)
      = ∑ p : Fin 25, ind (32 * (x (ix2 R ⟨p.val * 2 + 0, by omega⟩)).toNat + (x (ix2 R ⟨p.val * 2 + 1, by omega⟩)).toNat = b.val - 32) := by
  unfold refOut
  pointwise
  rw [dif_neg hb]
  refine Finset.sum_congr rfl fun p _ => ?_
  have hb' : b.val - 32 < 1024 := by omega
  refine (all_agree 2 (by decide) (fun q => x (ix2 R ⟨p.val * 2 + q.val, by omega⟩))
    fun q => Cert.ReferenceIdeal.lit1 (Cert.ReferenceIdeal.S1024x2.rowMajor (ix2 ⟨b.val - 32, hb'⟩ q))).trans ?_
  unfold ind
  congr 1
  refine propext (is_two _ _ (fun q => hx _) ⟨b.val - 32, hb'⟩ fun q => congrArg Cert.ReferenceIdeal.lit1 (Fin.ext ?_))
  refine (Shape.rowMajor_val_two (d := ![1024, 2]) _).trans ?_
  show (b.val - 32) * 2 + q.val = 2 * (b.val - 32) + q.val
  omega

end Cert.Proof

end
-- ==== Proof.Algebraic.lean ====
/-
  The value claim: at exact values the program and the reference make the same counts.
-/
module

public import proofs.«01_k».proof.Defs
public import proofs.«01_k».proof.Proof.KernelIdeal.Result
public import proofs.«01_k».proof.Proof.Reference
public import proofs.«01_k».proof.Proof.KernelIdeal.Pre

@[expose] public section

noncomputable section

namespace Cert.Proof

open Idealize.ShloMosaic Idealize.SL.Sem
open Cert.KernelIdeal.Ngram

/-- From tokens below 32 the reference's result is the program's. -/
theorem refOut_eq (m : (ℓ : Loc Cert.KernelIdeal.nD Cert.KernelIdeal.τ Cert.KernelIdeal.sig) → Buf (Elt Ideal) ℓ)
    (d : Dev Cert.KernelIdeal.nD) (h : Below m) : refOut (m (aLoc d)) = resultOf (F := Ideal) (flatIn m d) := by
  funext i
  obtain ⟨R, b, rfl⟩ : ∃ (R : Fin 1024) (b : Fin 1056), i = ix2 R b := ⟨i 0, i 1, eq_ix2 i⟩
  by_cases hb : b.val < 32
  · rw [refOut_uni _ R b hb, result_uni m d h R b hb]; rfl
  · rw [refOut_bi _ (h d) R b hb, result_bi m d h R b (Nat.le_of_not_lt hb)]; rfl

/-- The program at exact values and the reference at exact values, from memories with the same input of words below
    32, end with the same result, their inputs unchanged. -/
theorem algebraic : Cert.algebraic_KernelIdeal_ReferenceIdeal := by
  intro m ρ m' ρ' hpre hagree
  have hb : Below m := fun d j => below_of_fn (F := Ideal) _ (hpre d) j
  refine ⟨fun c => resultOf (F := Ideal) (flatIn m c), ?_, ?_⟩
  · exact (θ_run Cert.KernelIdeal.defs _ _).mono (fun _ e c => e.1 c) (run_main (F := Ideal) m ρ hb)
  refine (θ_run Cert.ReferenceIdeal.defs _ _).mono (fun _ e c => ⟨(e c).1.trans ?_, (e c).2⟩) (Cert.ReferenceIdeal.Value.run (F := Ideal) m' ρ')
  rw [hagree c]
  exact refOut_eq m c hb

end Cert.Proof

end
-- ==== Proof.lean ====
/-
  The proof of `Cert.Claim` (Defs.lean): its conjuncts, each proved in a module under Proof/, put together.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_tokens
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_tokens.Gen.facts,
    frame_kernel, frame_kernelIdeal, frame_reference, fun m ρ _ => frame_reference m ρ trivial, trivial, algebraic⟩

end Cert.Proof

end
